-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![64, 2048]⟩ ⟨2, ![64, 8192]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![8192, 4096]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![64, 2048]⟩ ⟨2, ![64, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S2048x512 : Shape := ⟨2, ![2048, 512]⟩
abbrev S512x2048 : Shape := ⟨2, ![512, 2048]⟩
abbrev S8x64x512 : Shape := ⟨3, ![8, 64, 512]⟩
abbrev S8x3x64x512 : Shape := ⟨4, ![8, 3, 64, 512]⟩
abbrev S8x3 : Shape := ⟨2, ![8, 3]⟩
abbrev S_ : Shape := ⟨0, ![]⟩
abbrev S64x512 : Shape := ⟨2, ![64, 512]⟩
abbrev S1x64x512 : Shape := ⟨3, ![1, 64, 512]⟩
abbrev S1x1 : Shape := ⟨2, ![1, 1]⟩
abbrev S1x1x64x512 : Shape := ⟨4, ![1, 1, 64, 512]⟩

abbrev nBuf : Space → Nat
  | .hbm => 10
  | .vmem => 24
  | .smem => 0
  | _ => 0

abbrev bufTy : (tb : Table) → Fin (tcTables nBuf tb) → BufTy
  | .hbm, ⟨0, _⟩ => ⟨S64x2048, .bf16⟩
  | .hbm, ⟨1, _⟩ => ⟨S2048x4096, .bf16⟩
  | .hbm, ⟨2, _⟩ => ⟨S2048x4096, .bf16⟩
  | .hbm, ⟨3, _⟩ => ⟨S2048x4096, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S64x2048, .f32⟩
  | .hbm, ⟨8, _⟩ => ⟨S64x2048, .f32⟩
  | .hbm, ⟨9, _⟩ => ⟨S64x2048, .f32⟩
  | .local _ .vmem, ⟨0, _⟩ => ⟨S64x2048, .bf16⟩
  | .local _ .vmem, ⟨1, _⟩ => ⟨S2048x512, .bf16⟩
  | .local _ .vmem, ⟨2, _⟩ => ⟨S2048x512, .bf16⟩
  | .local _ .vmem, ⟨3, _⟩ => ⟨S512x2048, .bf16⟩
  | .local _ .vmem, ⟨4, _⟩ => ⟨S512x2048, .bf16⟩
  | .local _ .vmem, ⟨5, _⟩ => ⟨S64x2048, .f32⟩
  | .local _ .vmem, ⟨6, _⟩ => ⟨S8x64x512, .bf16⟩
  | .local _ .vmem, ⟨7, _⟩ => ⟨S8x3x64x512, .bf16⟩
  | .local _ .vmem, ⟨8, _⟩ => ⟨S64x2048, .f32⟩
  | .local _ .vmem, ⟨9, _⟩ => ⟨S2048x512, .bf16⟩
  | .local _ .vmem, ⟨10, _⟩ => ⟨S2048x512, .bf16⟩
  | .local _ .vmem, ⟨11, _⟩ => ⟨S512x2048, .bf16⟩
  | .local _ .vmem, ⟨12, _⟩ => ⟨S512x2048, .bf16⟩
  | .local _ .vmem, ⟨13, _⟩ => ⟨S64x2048, .f32⟩
  | .local _ .vmem, ⟨14, _⟩ => ⟨S8x64x512, .bf16⟩
  | .local _ .vmem, ⟨15, _⟩ => ⟨S8x3x64x512, .bf16⟩
  | .local _ .vmem, ⟨16, _⟩ => ⟨S64x2048, .f32⟩
  | .local _ .vmem, ⟨17, _⟩ => ⟨S2048x512, .bf16⟩
  | .local _ .vmem, ⟨18, _⟩ => ⟨S2048x512, .bf16⟩
  | .local _ .vmem, ⟨19, _⟩ => ⟨S512x2048, .bf16⟩
  | .local _ .vmem, ⟨20, _⟩ => ⟨S512x2048, .bf16⟩
  | .local _ .vmem, ⟨21, _⟩ => ⟨S64x2048, .f32⟩
  | .local _ .vmem, ⟨22, _⟩ => ⟨S8x64x512, .bf16⟩
  | .local _ .vmem, ⟨23, _⟩ => ⟨S8x3x64x512, .bf16⟩
  | _, _ => ⟨S64x2048, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 3 → Bool
  | ⟨0, _⟩ => false
  | ⟨1, _⟩ => false
  | ⟨2, _⟩ => false
  | _ => false

abbrev dmaSemScoped : Fin 162 → Bool
  | ⟨i, _⟩ => dmaSemScopedAt i

abbrev sig : RefSig :=
  (ofTc nBuf bufTy 3 162 bufScoped semScoped dmaSemScoped tileCredit tileCredit_eq_zero tileCredit_pos).withBarriers [(0, 0), (1, 1), (2, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_scratch0 : Ref sig .tc := ⟨.vmem, 14, rfl⟩
abbrev cc1_scratch1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_scratch0 : Ref sig .tc := ⟨.vmem, 22, rfl⟩
abbrev cc2_scratch1 : Ref sig .tc := ⟨.vmem, 23, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 54
abbrev cc1_sem1_0 : DmaSem sig := 55
abbrev cc1_sem1_1 : DmaSem sig := 56
abbrev cc1_sem2_0 : DmaSem sig := 57
abbrev cc1_sem2_1 : DmaSem sig := 58
abbrev cc1_sem3_0 : DmaSem sig := 59
abbrev cc2_sem0_0 : DmaSem sig := 108
abbrev cc2_sem1_0 : DmaSem sig := 109
abbrev cc2_sem1_1 : DmaSem sig := 110
abbrev cc2_sem2_0 : DmaSem sig := 111
abbrev cc2_sem2_1 : DmaSem sig := 112
abbrev cc2_sem3_0 : DmaSem sig := 113
abbrev barrier0 : Sem sig := 0
abbrev barrier1 : Sem sig := 1
abbrev barrier2 : Sem sig := 2

abbrev nD : Nat := 4
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_103 : BitVec 32 := 1#32
  let v120 : BitVec 32 := Scalar.addi v2 c1_i32_103
  let c4_i32_104 : BitVec 32 := 4#32
  let v121 : BitVec 32 := Scalar.remsi v120 c4_i32_104
  let c1_i32_106 : BitVec 32 := 1#32
  let v122 : BitVec 32 := Scalar.muli v121 c1_i32_106
  let v123 : BitVec 32 := Scalar.addi c0_i32_107 v122
  v123.toNat
def k0_dev2 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_108 : BitVec 32 := 2#32
  let v124 : BitVec 32 := Scalar.addi v2 c2_i32_108
  let c4_i32_109 : BitVec 32 := 4#32
  let v125 : BitVec 32 := Scalar.remsi v124 c4_i32_109
  let c1_i32_111 : BitVec 32 := 1#32
  let v126 : BitVec 32 := Scalar.muli v125 c1_i32_111
  let v127 : BitVec 32 := Scalar.addi c0_i32_112 v126
  v127.toNat
def k0_dev3 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_113 : BitVec 32 := 3#32
  let v128 : BitVec 32 := Scalar.addi v2 c3_i32_113
  let c4_i32_114 : BitVec 32 := 4#32
  let v129 : BitVec 32 := Scalar.remsi v128 c4_i32_114
  let c1_i32_116 : BitVec 32 := 1#32
  let v130 : BitVec 32 := Scalar.muli v129 c1_i32_116
  let v131 : BitVec 32 := Scalar.addi c0_i32_117 v130
  v131.toNat
def k0_off1 (i : grid0.Coords) : Fin 3 → Nat :=
  let arg0 : BitVec 32 := BitVec.ofNat 32 (i 0).val
  let v12 : Index := Scalar.indexCast arg0
  let c0_4 : Index := 0#32
  let c0_5 : Index := 0#32
  ![v12.toNat, 0, 0]
def k0_off2 (i : grid0.Coords) : Fin 2 → Nat :=
  let arg0 : BitVec 32 := BitVec.ofNat 32 (i 0).val
  let c0_i32_10 : BitVec 32 := 0#32
  ![arg0.toNat, 0]
def k0_off3 (i : grid0.Coords) : Fin 4 → Nat :=
  let arg0 : BitVec 32 := BitVec.ofNat 32 (i 0).val
  let c0_i32_8 : BitVec 32 := 0#32
  let c0_i32_13 : BitVec 32 := 0#32
  let c0_i32_14 : BitVec 32 := 0#32
  ![arg0.toNat, 0, 0, 0]
def k0_off4 (i : grid0.Coords) : Fin 3 → Nat :=
  let arg0 : BitVec 32 := BitVec.ofNat 32 (i 0).val
  let c0_i32_15 : BitVec 32 := 0#32
  let c0_i32_16 : BitVec 32 := 0#32
  ![arg0.toNat, 0, 0]
def k0_dev4 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v16 : BitVec 32 := Scalar.addi v2 c1_i32_6
  let c4_i32_7 : BitVec 32 := 4#32
  let v17 : BitVec 32 := Scalar.remsi v16 c4_i32_7
  let c1_i32_11 : BitVec 32 := 1#32
  let v18 : BitVec 32 := Scalar.muli v17 c1_i32_11
  let v19 : BitVec 32 := Scalar.addi c0_i32_12 v18
  v19.toNat
def k0_off5 (i : grid0.Coords) : Fin 2 → Nat :=
  let arg0 : BitVec 32 := BitVec.ofNat 32 (i 0).val
  let c1_i32_20 : BitVec 32 := 1#32
  ![arg0.toNat, 1]
def k0_off6 (i : grid0.Coords) : Fin 4 → Nat :=
  let arg0 : BitVec 32 := BitVec.ofNat 32 (i 0).val
  let c1_i32_18 : BitVec 32 := 1#32
  let c0_i32_23 : BitVec 32 := 0#32
  let c0_i32_24 : BitVec 32 := 0#32
  ![arg0.toNat, 1, 0, 0]
def k0_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v28 : BitVec 32 := Scalar.addi v2 c2_i32
  let c4_i32_17 : BitVec 32 := 4#32
  let v29 : BitVec 32 := Scalar.remsi v28 c4_i32_17
  let c1_i32_21 : BitVec 32 := 1#32
  let v30 : BitVec 32 := Scalar.muli v29 c1_i32_21
  let v31 : BitVec 32 := Scalar.addi c0_i32_22 v30
  v31.toNat
def k0_off7 (i : grid0.Coords) : Fin 2 → Nat :=
  let arg0 : BitVec 32 := BitVec.ofNat 32 (i 0).val
  let c2_i32_30 : BitVec 32 := 2#32
  ![arg0.toNat, 2]
def k0_off8 (i : grid0.Coords) : Fin 4 → Nat :=
  let arg0 : BitVec 32 := BitVec.ofNat 32 (i 0).val
  let c2_i32_28 : BitVec 32 := 2#32
  let c0_i32_33 : BitVec 32 := 0#32
  let c0_i32_34 : BitVec 32 := 0#32
  ![arg0.toNat, 2, 0, 0]
def k0_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v40 : BitVec 32 := Scalar.addi v2 c3_i32
  let c4_i32_27 : BitVec 32 := 4#32
  let v41 : BitVec 32 := Scalar.remsi v40 c4_i32_27
  let c1_i32_31 : BitVec 32 := 1#32
  let v42 : BitVec 32 := Scalar.muli v41 c1_i32_31
  let v43 : BitVec 32 := Scalar.addi c0_i32_32 v42
  v43.toNat
def k0_off9 (i : grid0.Coords) : Fin 4 → Nat :=
  let arg0 : BitVec 32 := BitVec.ofNat 32 (i 0).val
  let v60 : Index := Scalar.indexCast arg0
  let c0_46 : Index := 0#32
  let c0_47 : Index := 0#32
  let c0_48 : Index := 0#32
  ![v60.toNat, 0, 0, 0]
def k0_off10 (i : grid0.Coords) : Fin 4 → Nat :=
  let arg0 : BitVec 32 := BitVec.ofNat 32 (i 0).val
  let v73 : Index := Scalar.indexCast arg0
  let c1 : Index := 1#32
  let c0_58 : Index := 0#32
  let c0_59 : Index := 0#32
  ![v73.toNat, 1, 0, 0]
def k0_off11 (i : grid0.Coords) : Fin 4 → Nat :=
  let arg0 : BitVec 32 := BitVec.ofNat 32 (i 0).val
  let v86 : Index := Scalar.indexCast arg0
  let c2 : Index := 2#32
  let c0_69 : Index := 0#32
  let c0_70 : Index := 0#32
  ![v86.toNat, 2, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![8], ![false]⟩

def k1_cond1 (i : grid1.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k1_dev1 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_103 : BitVec 32 := 1#32
  let v121 : BitVec 32 := Scalar.addi v2 c1_i32_103
  let c4_i32_104 : BitVec 32 := 4#32
  let v122 : BitVec 32 := Scalar.remsi v121 c4_i32_104
  let c1_i32_106 : BitVec 32 := 1#32
  let v123 : BitVec 32 := Scalar.muli v122 c1_i32_106
  let v124 : BitVec 32 := Scalar.addi c0_i32_107 v123
  v124.toNat
def k1_dev2 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_108 : BitVec 32 := 2#32
  let v125 : BitVec 32 := Scalar.addi v2 c2_i32_108
  let c4_i32_109 : BitVec 32 := 4#32
  let v126 : BitVec 32 := Scalar.remsi v125 c4_i32_109
  let c1_i32_111 : BitVec 32 := 1#32
  let v127 : BitVec 32 := Scalar.muli v126 c1_i32_111
  let v128 : BitVec 32 := Scalar.addi c0_i32_112 v127
  v128.toNat
def k1_dev3 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_113 : BitVec 32 := 3#32
  let v129 : BitVec 32 := Scalar.addi v2 c3_i32_113
  let c4_i32_114 : BitVec 32 := 4#32
  let v130 : BitVec 32 := Scalar.remsi v129 c4_i32_114
  let c1_i32_116 : BitVec 32 := 1#32
  let v131 : BitVec 32 := Scalar.muli v130 c1_i32_116
  let v132 : BitVec 32 := Scalar.addi c0_i32_117 v131
  v132.toNat
def k1_off1 (i : grid1.Coords) : Fin 3 → Nat :=
  let arg0 : BitVec 32 := BitVec.ofNat 32 (i 0).val
  let v13 : Index := Scalar.indexCast arg0
  let c0_4 : Index := 0#32
  let c0_5 : Index := 0#32
  ![v13.toNat, 0, 0]
def k1_off2 (i : grid1.Coords) : Fin 2 → Nat :=
  let arg0 : BitVec 32 := BitVec.ofNat 32 (i 0).val
  let c0_i32_10 : BitVec 32 := 0#32
  ![arg0.toNat, 0]
def k1_off3 (i : grid1.Coords) : Fin 4 → Nat :=
  let arg0 : BitVec 32 := BitVec.ofNat 32 (i 0).val
  let c0_i32_8 : BitVec 32 := 0#32
  let c0_i32_13 : BitVec 32 := 0#32
  let c0_i32_14 : BitVec 32 := 0#32
  ![arg0.toNat, 0, 0, 0]
def k1_off4 (i : grid1.Coords) : Fin 3 → Nat :=
  let arg0 : BitVec 32 := BitVec.ofNat 32 (i 0).val
  let c0_i32_15 : BitVec 32 := 0#32
  let c0_i32_16 : BitVec 32 := 0#32
  ![arg0.toNat, 0, 0]
def k1_dev4 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v17 : BitVec 32 := Scalar.addi v2 c1_i32_6
  let c4_i32_7 : BitVec 32 := 4#32
  let v18 : BitVec 32 := Scalar.remsi v17 c4_i32_7
  let c1_i32_11 : BitVec 32 := 1#32
  let v19 : BitVec 32 := Scalar.muli v18 c1_i32_11
  let v20 : BitVec 32 := Scalar.addi c0_i32_12 v19
  v20.toNat
def k1_off5 (i : grid1.Coords) : Fin 2 → Nat :=
  let arg0 : BitVec 32 := BitVec.ofNat 32 (i 0).val
  let c1_i32_20 : BitVec 32 := 1#32
  ![arg0.toNat, 1]
def k1_off6 (i : grid1.Coords) : Fin 4 → Nat :=
  let arg0 : BitVec 32 := BitVec.ofNat 32 (i 0).val
  let c1_i32_18 : BitVec 32 := 1#32
  let c0_i32_23 : BitVec 32 := 0#32
  let c0_i32_24 : BitVec 32 := 0#32
  ![arg0.toNat, 1, 0, 0]
def k1_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v29 : BitVec 32 := Scalar.addi v2 c2_i32
  let c4_i32_17 : BitVec 32 := 4#32
  let v30 : BitVec 32 := Scalar.remsi v29 c4_i32_17
  let c1_i32_21 : BitVec 32 := 1#32
  let v31 : BitVec 32 := Scalar.muli v30 c1_i32_21
  let v32 : BitVec 32 := Scalar.addi c0_i32_22 v31
  v32.toNat
def k1_off7 (i : grid1.Coords) : Fin 2 → Nat :=
  let arg0 : BitVec 32 := BitVec.ofNat 32 (i 0).val
  let c2_i32_30 : BitVec 32 := 2#32
  ![arg0.toNat, 2]
def k1_off8 (i : grid1.Coords) : Fin 4 → Nat :=
  let arg0 : BitVec 32 := BitVec.ofNat 32 (i 0).val
  let c2_i32_28 : BitVec 32 := 2#32
  let c0_i32_33 : BitVec 32 := 0#32
  let c0_i32_34 : BitVec 32 := 0#32
  ![arg0.toNat, 2, 0, 0]
def k1_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v41 : BitVec 32 := Scalar.addi v2 c3_i32
  let c4_i32_27 : BitVec 32 := 4#32
  let v42 : BitVec 32 := Scalar.remsi v41 c4_i32_27
  let c1_i32_31 : BitVec 32 := 1#32
  let v43 : BitVec 32 := Scalar.muli v42 c1_i32_31
  let v44 : BitVec 32 := Scalar.addi c0_i32_32 v43
  v44.toNat
def k1_off9 (i : grid1.Coords) : Fin 4 → Nat :=
  let arg0 : BitVec 32 := BitVec.ofNat 32 (i 0).val
  let v61 : Index := Scalar.indexCast arg0
  let c0_46 : Index := 0#32
  let c0_47 : Index := 0#32
  let c0_48 : Index := 0#32
  ![v61.toNat, 0, 0, 0]
def k1_off10 (i : grid1.Coords) : Fin 4 → Nat :=
  let arg0 : BitVec 32 := BitVec.ofNat 32 (i 0).val
  let v74 : Index := Scalar.indexCast arg0
  let c1 : Index := 1#32
  let c0_58 : Index := 0#32
  let c0_59 : Index := 0#32
  ![v74.toNat, 1, 0, 0]
def k1_off11 (i : grid1.Coords) : Fin 4 → Nat :=
  let arg0 : BitVec 32 := BitVec.ofNat 32 (i 0).val
  let v87 : Index := Scalar.indexCast arg0
  let c2 : Index := 2#32
  let c0_69 : Index := 0#32
  let c0_70 : Index := 0#32
  ![v87.toNat, 2, 0, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k2_dev1 (d0 : Dev nD) : Nat :=
  let c0_i32_107 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_103 : BitVec 32 := 1#32
  let v121 : BitVec 32 := Scalar.addi v2 c1_i32_103
  let c4_i32_104 : BitVec 32 := 4#32
  let v122 : BitVec 32 := Scalar.remsi v121 c4_i32_104
  let c1_i32_106 : BitVec 32 := 1#32
  let v123 : BitVec 32 := Scalar.muli v122 c1_i32_106
  let v124 : BitVec 32 := Scalar.addi c0_i32_107 v123
  v124.toNat
def k2_dev2 (d0 : Dev nD) : Nat :=
  let c0_i32_112 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_108 : BitVec 32 := 2#32
  let v125 : BitVec 32 := Scalar.addi v2 c2_i32_108
  let c4_i32_109 : BitVec 32 := 4#32
  let v126 : BitVec 32 := Scalar.remsi v125 c4_i32_109
  let c1_i32_111 : BitVec 32 := 1#32
  let v127 : BitVec 32 := Scalar.muli v126 c1_i32_111
  let v128 : BitVec 32 := Scalar.addi c0_i32_112 v127
  v128.toNat
def k2_dev3 (d0 : Dev nD) : Nat :=
  let c0_i32_117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_113 : BitVec 32 := 3#32
  let v129 : BitVec 32 := Scalar.addi v2 c3_i32_113
  let c4_i32_114 : BitVec 32 := 4#32
  let v130 : BitVec 32 := Scalar.remsi v129 c4_i32_114
  let c1_i32_116 : BitVec 32 := 1#32
  let v131 : BitVec 32 := Scalar.muli v130 c1_i32_116
  let v132 : BitVec 32 := Scalar.addi c0_i32_117 v131
  v132.toNat
def k2_off1 (i : grid2.Coords) : Fin 3 → Nat :=
  let arg0 : BitVec 32 := BitVec.ofNat 32 (i 0).val
  let v13 : Index := Scalar.indexCast arg0
  let c0_4 : Index := 0#32
  let c0_5 : Index := 0#32
  ![v13.toNat, 0, 0]
def k2_off2 (i : grid2.Coords) : Fin 2 → Nat :=
  let arg0 : BitVec 32 := BitVec.ofNat 32 (i 0).val
  let c0_i32_10 : BitVec 32 := 0#32
  ![arg0.toNat, 0]
def k2_off3 (i : grid2.Coords) : Fin 4 → Nat :=
  let arg0 : BitVec 32 := BitVec.ofNat 32 (i 0).val
  let c0_i32_8 : BitVec 32 := 0#32
  let c0_i32_13 : BitVec 32 := 0#32
  let c0_i32_14 : BitVec 32 := 0#32
  ![arg0.toNat, 0, 0, 0]
def k2_off4 (i : grid2.Coords) : Fin 3 → Nat :=
  let arg0 : BitVec 32 := BitVec.ofNat 32 (i 0).val
  let c0_i32_15 : BitVec 32 := 0#32
  let c0_i32_16 : BitVec 32 := 0#32
  ![arg0.toNat, 0, 0]
def k2_dev4 (d0 : Dev nD) : Nat :=
  let c0_i32_12 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v17 : BitVec 32 := Scalar.addi v2 c1_i32_6
  let c4_i32_7 : BitVec 32 := 4#32
  let v18 : BitVec 32 := Scalar.remsi v17 c4_i32_7
  let c1_i32_11 : BitVec 32 := 1#32
  let v19 : BitVec 32 := Scalar.muli v18 c1_i32_11
  let v20 : BitVec 32 := Scalar.addi c0_i32_12 v19
  v20.toNat
def k2_off5 (i : grid2.Coords) : Fin 2 → Nat :=
  let arg0 : BitVec 32 := BitVec.ofNat 32 (i 0).val
  let c1_i32_20 : BitVec 32 := 1#32
  ![arg0.toNat, 1]
def k2_off6 (i : grid2.Coords) : Fin 4 → Nat :=
  let arg0 : BitVec 32 := BitVec.ofNat 32 (i 0).val
  let c1_i32_18 : BitVec 32 := 1#32
  let c0_i32_23 : BitVec 32 := 0#32
  let c0_i32_24 : BitVec 32 := 0#32
  ![arg0.toNat, 1, 0, 0]
def k2_dev5 (d0 : Dev nD) : Nat :=
  let c0_i32_22 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v29 : BitVec 32 := Scalar.addi v2 c2_i32
  let c4_i32_17 : BitVec 32 := 4#32
  let v30 : BitVec 32 := Scalar.remsi v29 c4_i32_17
  let c1_i32_21 : BitVec 32 := 1#32
  let v31 : BitVec 32 := Scalar.muli v30 c1_i32_21
  let v32 : BitVec 32 := Scalar.addi c0_i32_22 v31
  v32.toNat
def k2_off7 (i : grid2.Coords) : Fin 2 → Nat :=
  let arg0 : BitVec 32 := BitVec.ofNat 32 (i 0).val
  let c2_i32_30 : BitVec 32 := 2#32
  ![arg0.toNat, 2]
def k2_off8 (i : grid2.Coords) : Fin 4 → Nat :=
  let arg0 : BitVec 32 := BitVec.ofNat 32 (i 0).val
  let c2_i32_28 : BitVec 32 := 2#32
  let c0_i32_33 : BitVec 32 := 0#32
  let c0_i32_34 : BitVec 32 := 0#32
  ![arg0.toNat, 2, 0, 0]
def k2_dev6 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v41 : BitVec 32 := Scalar.addi v2 c3_i32
  let c4_i32_27 : BitVec 32 := 4#32
  let v42 : BitVec 32 := Scalar.remsi v41 c4_i32_27
  let c1_i32_31 : BitVec 32 := 1#32
  let v43 : BitVec 32 := Scalar.muli v42 c1_i32_31
  let v44 : BitVec 32 := Scalar.addi c0_i32_32 v43
  v44.toNat
def k2_off9 (i : grid2.Coords) : Fin 4 → Nat :=
  let arg0 : BitVec 32 := BitVec.ofNat 32 (i 0).val
  let v61 : Index := Scalar.indexCast arg0
  let c0_46 : Index := 0#32
  let c0_47 : Index := 0#32
  let c0_48 : Index := 0#32
  ![v61.toNat, 0, 0, 0]
def k2_off10 (i : grid2.Coords) : Fin 4 → Nat :=
  let arg0 : BitVec 32 := BitVec.ofNat 32 (i 0).val
  let v74 : Index := Scalar.indexCast arg0
  let c1 : Index := 1#32
  let c0_58 : Index := 0#32
  let c0_59 : Index := 0#32
  ![v74.toNat, 1, 0, 0]
def k2_off11 (i : grid2.Coords) : Fin 4 → Nat :=
  let arg0 : BitVec 32 := BitVec.ofNat 32 (i 0).val
  let v87 : Index := Scalar.indexCast arg0
  let c2 : Index := 2#32
  let c0_69 : Index := 0#32
  let c0_70 : Index := 0#32
  ![v87.toNat, 2, 0, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]
-- ==== ReferenceIdeal.lean ====
abbrev S64x8192 : Shape := ⟨2, ![64, 8192]⟩
abbrev S8192x4096 : Shape := ⟨2, ![8192, 4096]⟩
abbrev S4096x8192 : Shape := ⟨2, ![4096, 8192]⟩
abbrev S64x4096 : Shape := ⟨2, ![64, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S64x8192, .bf16⟩
  | .hbm, ⟨1, _⟩ => ⟨S8192x4096, .bf16⟩
  | .hbm, ⟨2, _⟩ => ⟨S8192x4096, .bf16⟩
  | .hbm, ⟨3, _⟩ => ⟨S8192x4096, .bf16⟩
  | .hbm, ⟨4, _⟩ => ⟨S4096x8192, .bf16⟩
  | .hbm, ⟨5, _⟩ => ⟨S4096x8192, .bf16⟩
  | .hbm, ⟨6, _⟩ => ⟨S4096x8192, .bf16⟩
  | .hbm, ⟨7, _⟩ => ⟨S64x4096, .f32⟩
  | .hbm, ⟨8, _⟩ => ⟨S64x4096, .bf16⟩
  | .hbm, ⟨9, _⟩ => ⟨S_, .bf16⟩
  | .hbm, ⟨10, _⟩ => ⟨S64x4096, .bf16⟩
  | .hbm, ⟨11, _⟩ => ⟨S64x4096, .bf16⟩
  | .hbm, ⟨12, _⟩ => ⟨S64x8192, .f32⟩
  | .hbm, ⟨13, _⟩ => ⟨S64x8192, .bf16⟩
  | .hbm, ⟨14, _⟩ => ⟨S64x4096, .f32⟩
  | .hbm, ⟨15, _⟩ => ⟨S64x4096, .bf16⟩
  | .hbm, ⟨16, _⟩ => ⟨S_, .bf16⟩
  | .hbm, ⟨17, _⟩ => ⟨S64x4096, .bf16⟩
  | .hbm, ⟨18, _⟩ => ⟨S64x4096, .bf16⟩
  | .hbm, ⟨19, _⟩ => ⟨S64x8192, .f32⟩
  | .hbm, ⟨20, _⟩ => ⟨S64x8192, .bf16⟩
  | .hbm, ⟨21, _⟩ => ⟨S64x4096, .f32⟩
  | .hbm, ⟨22, _⟩ => ⟨S64x4096, .bf16⟩
  | .hbm, ⟨23, _⟩ => ⟨S_, .bf16⟩
  | .hbm, ⟨24, _⟩ => ⟨S64x4096, .bf16⟩
  | .hbm, ⟨25, _⟩ => ⟨S64x4096, .bf16⟩
  | .hbm, ⟨26, _⟩ => ⟨S64x8192, .f32⟩
  | .hbm, ⟨27, _⟩ => ⟨S64x8192, .bf16⟩
  | .hbm, ⟨28, _⟩ => ⟨S64x8192, .f32⟩
  | _, _ => ⟨S64x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Proof.Ideal.Body.lean ====
/- The function every layer runs at one chunk, written once with the layer's data as parameters, and the three printed
   functions as its instances. A layer's functions differ in the element type of its activations, in its buffers and in
   its barrier semaphore only. -/
module

public import proofs.«01_k».proof.Proof.Gen.KernelIdeal.Skeleton

@[expose] public section

noncomputable section

namespace Cert.KernelIdeal.Tp

open Idealize.ShloMosaic Idealize.SL.Sem
open Cert.KernelIdeal.Gen

variable {F : FTy → Type} [FloatOps F]

/-! ## Sites: the places a chunk's operations name -/

/-- The device `s + 1` places after `d` on the ring of four. -/
def peer (s : Fin 3) (d : Dev nD) : Dev nD :=
  match s with
  | 0 => ⟨k0_dev4 d, k0_dev4_lt d⟩
  | 1 => ⟨k0_dev5 d, k0_dev5_lt d⟩
  | 2 => ⟨k0_dev6 d, k0_dev6_lt d⟩

/-- The corner, in a semaphore array, of chunk `i`'s entry for exchange `s`. -/
def semOff (s : Fin 3) (i : grid0.Coords) : Fin 2 → Nat :=
  match s with
  | 0 => k0_off2 i
  | 1 => k0_off5 i
  | 2 => k0_off7 i

/-- The corner of chunk `i`'s landing slot for exchange `s`, as a copy names it. -/
def slotOff (s : Fin 3) (i : grid0.Coords) : Fin 4 → Nat :=
  match s with
  | 0 => k0_off3 i
  | 1 => k0_off6 i
  | 2 => k0_off8 i

/-- The same corner as a load names it. -/
def readOff (s : Fin 3) (i : grid0.Coords) : Fin 4 → Nat :=
  match s with
  | 0 => k0_off9 i
  | 1 => k0_off10 i
  | 2 => k0_off11 i

/-- Each corner in closed form. -/
theorem semOff_eq (s : Fin 3) (i : grid0.Coords) : semOff s i = ![(i 0).val, s.val] := by
  match s with
  | 0 => exact k0_off2_eq i
  | 1 => exact k0_off5_eq i
  | 2 => exact k0_off7_eq i

/-- The slot that exchange `s` of chunk `i` lands in starts at row `i`, column `s`. -/
theorem slotOff_eq (s : Fin 3) (i : grid0.Coords) : slotOff s i = ![(i 0).val, s.val, 0, 0] := by
  match s with
  | 0 => exact k0_off3_eq i
  | 1 => exact k0_off6_eq i
  | 2 => exact k0_off8_eq i

/-- The kernel reads it from the same place. -/
theorem readOff_eq (s : Fin 3) (i : grid0.Coords) : readOff s i = ![(i 0).val, s.val, 0, 0] := by
  match s with
  | 0 => exact k0_off9_eq i
  | 1 => exact k0_off10_eq i
  | 2 => exact k0_off11_eq i

/-- So a received block is read where it lands. -/
theorem readOff_slotOff (s : Fin 3) (i : grid0.Coords) : readOff s i = slotOff s i := (readOff_eq s i).trans (slotOff_eq s i).symm

/-- The block is stored where the copies read it. -/
theorem sendOff_eq (i : grid0.Coords) : k0_off1 i = k0_off4 i := (k0_off1_eq i).trans (k0_off4_eq i).symm

/-- Each corner leaves room for its block. -/
theorem semOff_inb (s : Fin 3) (i : grid0.Coords) : ∀ a, semOff s i a + S1x1.size a ≤ S8x3.size a := by
  match s with
  | 0 => exact k0_off2_inb i
  | 1 => exact k0_off5_inb i
  | 2 => exact k0_off7_inb i

/-- A landing slot lies inside the receive buffer, -/
theorem slotOff_inb (s : Fin 3) (i : grid0.Coords) : ∀ a, slotOff s i a + S1x1x64x512.size a ≤ S8x3x64x512.size a := by
  match s with
  | 0 => exact k0_off3_inb i
  | 1 => exact k0_off6_inb i
  | 2 => exact k0_off8_inb i

/-- and so does what the kernel reads. -/
theorem readOff_inb (s : Fin 3) (i : grid0.Coords) : ∀ a, readOff s i a + S1x1x64x512.size a ≤ S8x3x64x512.size a := by
  match s with
  | 0 => exact k0_off9_inb i
  | 1 => exact k0_off10_inb i
  | 2 => exact k0_off11_inb i

/-- A landing slot ends on word boundaries. -/
theorem slot_wordExact (s : Fin 3) (i : grid0.Coords) (m : Memref sig .tc .vmem S8x3x64x512 .bf16) (hm : m.IsWhole) :
    (m.view.slice (Rect.unit (s := S8x3x64x512) (slotOff s i) S1x1x64x512.size (slotOff_inb s i))).WordExact := by
  match s with
  | 0 => exact hm.wordExact_slice rfl _ (k0_off3_wordsbf16 i)
  | 1 => exact hm.wordExact_slice rfl _ (k0_off6_wordsbf16 i)
  | 2 => exact hm.wordExact_slice rfl _ (k0_off8_wordsbf16 i)

/-- Chunk `i`'s entry of a semaphore array for exchange `s`. -/
abbrev semAt (a : DmaSems sig S8x3) (s : Fin 3) (i : grid0.Coords) : DmaSem sig :=
  ((a.slice (Rect.unit (s := S8x3) (semOff s i) S1x1.size (semOff_inb s i))).squeeze S_ squeezes_S1x1_S_).sem

/-- Chunk `i`'s slot of a send buffer. -/
abbrev sendAt (m : Memref sig .tc .vmem S8x64x512 .bf16) (i : grid0.Coords) : Memref sig .tc .vmem S64x512 .bf16 :=
  (m.slice (Rect.unit (s := S8x64x512) (k0_off4 i) S1x64x512.size (k0_off4_inb i)) (fun _ => rfl)).squeeze S64x512 squeezes_S1x64x512_S64x512

/-- Chunk `i`'s landing slot for exchange `s`. -/
abbrev slotAt (m : Memref sig .tc .vmem S8x3x64x512 .bf16) (s : Fin 3) (i : grid0.Coords) : Memref sig .tc .vmem S64x512 .bf16 :=
  (m.slice (Rect.unit (s := S8x3x64x512) (slotOff s i) S1x1x64x512.size (slotOff_inb s i)) (fun _ => rfl)).squeeze S64x512 squeezes_S1x1x64x512_S64x512

/-! ## The operations -/

/-- Start the copy of chunk `i`'s slot to the device `s + 1` places on. -/
def ship (i : grid0.Coords) (d : Dev nD) (snd : Memref sig .tc .vmem S8x64x512 .bf16) (hsnd : snd.IsWhole)
    (com : Memref sig .tc .vmem S8x3x64x512 .bf16) (hcom : com.IsWhole) (ss rs : DmaSems sig S8x3) (s : Fin 3) :
    Prog (TpuEff nD τ sig (Elt F) Λ₀ .tc) PUnit :=
  Prog.lift (.enqueueDma (sendAt snd i) (.remote (Dev.tc (peer s d)) (slotAt com s i) (.dma (semAt ss s i))) (.dma (semAt rs s i))
    ((hsnd.wordExact_slice rfl _ (k0_off4_wordsbf16 i)).reshape _ _) ((slot_wordExact s i com hcom).reshape _ _) ⟨⟨rfl, Or.inl rfl⟩, trivial⟩)

/-- Wait for the block that exchange `s` brings, and read it. -/
def gather (i : grid0.Coords) (snd : Memref sig .tc .vmem S8x64x512 .bf16) (hsnd : snd.IsWhole)
    (com : Memref sig .tc .vmem S8x3x64x512 .bf16) (hcom : com.IsWhole) (rs : DmaSems sig S8x3) (s : Fin 3) :
    Prog (TpuEff nD τ sig (Elt F) Λ₀ .tc) (Vec F S1x1x64x512 .bf16) := do
  Prog.lift (.waitDma2 (semAt rs s i) (sendAt snd i) (slotAt com s i)
    ((hsnd.wordExact_slice rfl _ (k0_off4_wordsbf16 i)).reshape _ _) ((slot_wordExact s i com hcom).reshape _ _))
  Prog.lift (.load com (Rect.unit (s := S8x3x64x512) (readOff s i) S1x1x64x512.size (readOff_inb s i)).toLoadRect (View.loadsAt_vmem h_S1x1x64x512))

/-- Wait until exchange `s` has read the send slot. -/
def drain (i : grid0.Coords) (snd : Memref sig .tc .vmem S8x64x512 .bf16) (hsnd : snd.IsWhole)
    (com : Memref sig .tc .vmem S8x3x64x512 .bf16) (hcom : com.IsWhole) (ss : DmaSems sig S8x3) (s : Fin 3) :
    Prog (TpuEff nD τ sig (Elt F) Λ₀ .tc) PUnit :=
  Prog.lift (.waitDma2 (semAt ss s i) (slotAt com s i) (sendAt snd i)
    ((slot_wordExact s i com hcom).reshape _ _) ((hsnd.wordExact_slice rfl _ (k0_off4_wordsbf16 i)).reshape _ _))

/-- A load of a whole matrix. -/
abbrev loadAll (m n : Nat) {e : EltTy} (a : Memref sig .tc .vmem ⟨2, ![m, n]⟩ e)
    (h : ∀ a, (![0, 0] : Fin 2 → Nat) a + (⟨2, ![m, n]⟩ : Shape).size a ≤ (⟨2, ![m, n]⟩ : Shape).size a) (hp : 0 < (⟨2, ![m, n]⟩ : Shape).numel) :
    Prog (TpuEff nD τ sig (Elt F) Λ₀ .tc) (Vec F ⟨2, ![m, n]⟩ e) :=
  Prog.lift (.load a (Rect.unit (s := ⟨2, ![m, n]⟩) ![0, 0] (⟨2, ![m, n]⟩ : Shape).size h).toLoadRect (View.loadsAt_vmem hp))

/-- A store of the whole of the layer's result block. -/
abbrev storeOut (a : Memref sig .tc .vmem S64x2048 .f32) (x : FVec F S64x2048 .f32) : Prog (TpuEff nD τ sig (Elt F) Λ₀ .tc) PUnit :=
  Prog.lift (.store a (Rect.unit (s := S64x2048) ![0, 0] S64x2048.size inb_S64x2048_S64x2048_0_0) x Finset.univ
    (View.stores_vmem_bits_univ h_S64x2048 rfl) (.inl rfl))

/-- The entry of a layer: tell each other device that this one is ready, wait for the three, clear the result. -/
def enter (d : Dev nD) (bar : Sem sig) (out : Memref sig .tc .vmem S64x2048 .f32) : Prog (TpuEff nD τ sig (Elt F) Λ₀ .tc) PUnit := do
  semSignalWord (peer 0 d) bar 1#32
  semSignalWord (peer 1 d) bar 1#32
  semSignalWord (peer 2 d) bar 1#32
  semWaitWord bar 3#32
  let _ ← loadAll 64 2048 out inb_S64x2048_S64x2048_0_0 h_S64x2048
  storeOut out (k0_pay1 (F := F))
  pure ⟨⟩

/-- The block a chunk sends, from the product it makes. -/
def sent (p : FVec F S64x512 .f32) : FVec F S64x512 .bf16 := truncf .bf16 p bitsLt_bf16_f32

/-- A received block, widened. -/
def widen (x : FVec F S64x512 .bf16) : FVec F S64x512 .f32 := extf .f32 x bitsLt_bf16_f32

/-- A chunk's step on the result: the three received blocks added to the chunk's own product in slot order, clipped below
    at zero, rounded, multiplied into the second weight's block, added to the result so far. -/
def stepOut (p : FVec F S64x512 .f32) (c0 c1 c2 : FVec F S64x512 .bf16) (o : Vec F S64x2048 .f32) (w : Vec F S512x2048 .bf16) : FVec F S64x2048 .f32 :=
  k0_pay6 (addf (addf p (widen c0)) (widen c1)) (widen c2) o w

/-- A chunk's work, from device `d`. -/
def chunk {e : EltTy} (prod : Vec F S64x2048 e → Vec F S2048x512 .bf16 → FVec F S64x512 .f32) (i : grid0.Coords) (d : Dev nD)
    (x : Memref sig .tc .vmem S64x2048 e) (win : Memref sig .tc .vmem S2048x512 .bf16) (wout : Memref sig .tc .vmem S512x2048 .bf16)
    (out : Memref sig .tc .vmem S64x2048 .f32) (snd : Memref sig .tc .vmem S8x64x512 .bf16) (hsnd : snd.IsWhole)
    (com : Memref sig .tc .vmem S8x3x64x512 .bf16) (hcom : com.IsWhole) (ss rs : DmaSems sig S8x3) :
    Prog (TpuEff nD τ sig (Elt F) Λ₀ .tc) PUnit := do
  let vx ← loadAll 64 2048 x inb_S64x2048_S64x2048_0_0 h_S64x2048
  let vw ← loadAll 2048 512 win inb_S2048x512_S2048x512_0_0 h_S2048x512
  let _ ← Prog.lift (.load snd (Rect.unit (s := S8x64x512) (k0_off1 i) S1x64x512.size (k0_off1_inb i)).toLoadRect (View.loadsAt_vmem h_S1x64x512))
  Prog.lift (.store snd (Rect.unit (s := S8x64x512) (k0_off1 i) S1x64x512.size (k0_off1_inb i))
    (shapeCast S1x64x512 (sent (prod vx vw)) shapeCasts_S64x512_S1x64x512) Finset.univ
    (View.stores_vmem h_S1x64x512 (hsnd.storeExact_slice rfl _ (k0_off1_packedbf16 i)) (fun _ => rfl)) (.inl rfl))
  ship i d snd hsnd com hcom ss rs 0
  ship i d snd hsnd com hcom ss rs 1
  ship i d snd hsnd com hcom ss rs 2
  let c0 ← gather i snd hsnd com hcom rs 0
  let c1 ← gather i snd hsnd com hcom rs 1
  let c2 ← gather i snd hsnd com hcom rs 2
  let o ← loadAll 64 2048 out inb_S64x2048_S64x2048_0_0 h_S64x2048
  let w ← loadAll 512 2048 wout inb_S512x2048_S512x2048_0_0 h_S512x2048
  let _ ← loadAll 64 2048 out inb_S64x2048_S64x2048_0_0 h_S64x2048
  storeOut out (stepOut (prod vx vw) (shapeCast S64x512 c0 shapeCasts_S1x1x64x512_S64x512) (shapeCast S64x512 c1 shapeCasts_S1x1x64x512_S64x512)
    (shapeCast S64x512 c2 shapeCasts_S1x1x64x512_S64x512) o w)
  drain i snd hsnd com hcom ss 0
  drain i snd hsnd com hcom ss 1
  drain i snd hsnd com hcom ss 2
  pure ⟨⟩

/-- A layer's function at one chunk: the entry at the first, then the chunk's work. -/
def body {e : EltTy} (prod : Vec F S64x2048 e → Vec F S2048x512 .bf16 → FVec F S64x512 .f32) (bar : Sem sig) (i : grid0.Coords)
    (x : Memref sig .tc .vmem S64x2048 e) (win : Memref sig .tc .vmem S2048x512 .bf16) (wout : Memref sig .tc .vmem S512x2048 .bf16)
    (out : Memref sig .tc .vmem S64x2048 .f32) (snd : Memref sig .tc .vmem S8x64x512 .bf16) (hsnd : snd.IsWhole)
    (com : Memref sig .tc .vmem S8x3x64x512 .bf16) (hcom : com.IsWhole) (ss rs : DmaSems sig S8x3) :
    Prog (TpuEff nD τ sig (Elt F) Λ₀ .tc) PUnit := do
  let d ← Prog.lift .deviceId
  if _h : k0_cond1 i = 1#1 then enter d bar out else pure ⟨⟩
  chunk prod i d x win wout out snd hsnd com hcom ss rs

/-! ## The printed functions are its instances -/

set_option maxRecDepth 65536 in
/-- The first layer's printed function. -/
theorem layer0_eq (i : grid0.Coords) (a1 : Memref sig .tc .vmem S64x2048 .bf16) (h1 : a1.IsWhole) (a2 : Memref sig .tc .vmem S2048x512 .bf16) (h2 : a2.IsWhole)
    (a3 : Memref sig .tc .vmem S512x2048 .bf16) (h3 : a3.IsWhole) (a4 : Memref sig .tc .vmem S64x2048 .f32) (h4 : a4.IsWhole)
    (a5 : Memref sig .tc .vmem S8x64x512 .bf16) (h5 : a5.IsWhole) (a6 : Memref sig .tc .vmem S8x3x64x512 .bf16) (h6 : a6.IsWhole) (a7 a8 : DmaSems sig S8x3) :
    cc0__layer_body (F := F) i a1 h1 a2 h2 a3 h3 a4 h4 a5 h5 a6 h6 a7 a8 = body k0_pay2 (sig.barrier 0 rfl) i a1 a2 a3 a4 a5 h5 a6 h6 a7 a8 := by
  rw [cc0__layer_body_eq_skeleton]
  unfold cc0__layer_body_skel body chunk
  rw [k0_part1_eq_skeleton]
  unfold k0_part1_skel
  by_cases h : k0_cond1 i = 1#1
  · have h' : k0_cond1 i = 1#1 := h
    simp only [dif_pos h, dif_pos h']
    rfl
  · have h' : ¬ k0_cond1 i = 1#1 := h
    simp only [dif_neg h, dif_neg h']
    rfl

set_option maxRecDepth 65536 in
/-- The second layer's. -/
theorem layer1_eq (i : grid1.Coords) (a1 : Memref sig .tc .vmem S64x2048 .f32) (h1 : a1.IsWhole) (a2 : Memref sig .tc .vmem S2048x512 .bf16) (h2 : a2.IsWhole)
    (a3 : Memref sig .tc .vmem S512x2048 .bf16) (h3 : a3.IsWhole) (a4 : Memref sig .tc .vmem S64x2048 .f32) (h4 : a4.IsWhole)
    (a5 : Memref sig .tc .vmem S8x64x512 .bf16) (h5 : a5.IsWhole) (a6 : Memref sig .tc .vmem S8x3x64x512 .bf16) (h6 : a6.IsWhole) (a7 a8 : DmaSems sig S8x3) :
    cc1__layer_body (F := F) i a1 h1 a2 h2 a3 h3 a4 h4 a5 h5 a6 h6 a7 a8 = body k1_pay2 (sig.barrier 1 rfl) i a1 a2 a3 a4 a5 h5 a6 h6 a7 a8 := by
  rw [cc1__layer_body_eq_skeleton]
  unfold cc1__layer_body_skel body chunk
  rw [k1_part1_eq_skeleton]
  unfold k1_part1_skel
  by_cases h : k0_cond1 i = 1#1
  · have h' : k1_cond1 i = 1#1 := h
    simp only [dif_pos h, dif_pos h']
    rfl
  · have h' : ¬ k1_cond1 i = 1#1 := h
    simp only [dif_neg h, dif_neg h']
    rfl

set_option maxRecDepth 65536 in
/-- The third layer's. -/
theorem layer2_eq (i : grid2.Coords) (a1 : Memref sig .tc .vmem S64x2048 .f32) (h1 : a1.IsWhole) (a2 : Memref sig .tc .vmem S2048x512 .bf16) (h2 : a2.IsWhole)
    (a3 : Memref sig .tc .vmem S512x2048 .bf16) (h3 : a3.IsWhole) (a4 : Memref sig .tc .vmem S64x2048 .f32) (h4 : a4.IsWhole)
    (a5 : Memref sig .tc .vmem S8x64x512 .bf16) (h5 : a5.IsWhole) (a6 : Memref sig .tc .vmem S8x3x64x512 .bf16) (h6 : a6.IsWhole) (a7 a8 : DmaSems sig S8x3) :
    cc2__layer_body (F := F) i a1 h1 a2 h2 a3 h3 a4 h4 a5 h5 a6 h6 a7 a8 = body k2_pay2 (sig.barrier 2 rfl) i a1 a2 a3 a4 a5 h5 a6 h6 a7 a8 := by
  rw [cc2__layer_body_eq_skeleton]
  unfold cc2__layer_body_skel body chunk
  rw [k2_part1_eq_skeleton]
  unfold k2_part1_skel
  by_cases h : k0_cond1 i = 1#1
  · have h' : k2_cond1 i = 1#1 := h
    simp only [dif_pos h, dif_pos h']
    rfl
  · have h' : ¬ k2_cond1 i = 1#1 := h
    simp only [dif_neg h, dif_neg h']
    rfl

end Cert.KernelIdeal.Tp

end
-- ==== Proof.Ideal.Sched.lean ====
/- What the devices promise one another: the cells (one barrier per layer, one send and one receive semaphore per layer,
   chunk and exchange), who pays each, how much, and what each payment hands over. The blocks that travel are a parameter
   here: `B k j c` is the block device `c` sends in layer `k` at chunk `j`. -/
module

public import proofs.«01_k».proof.Proof.Ideal.Body
public import proofs.«01_k».proof.Proof.Gen.KernelIdeal.Launch
public import proofs.«01_k».proof.Proof.Gen.KernelIdeal.Regions
public import proofs.«01_k».proof.Proof.Gen.KernelIdeal.Points
public import Idealize.ShloMosaic.Lib.Rounds
public import Idealize.ShloMosaic.Lib.Memref
public import Idealize.ShloMosaic.Lib.MemrefSat
public import Idealize.ShloMosaic.Lib.ValueLayout
public import Idealize.ShloMosaic.Lib.Pipeline.Regions
public import Idealize.ShloMosaic.Lib.Pipeline.Kit
public import Idealize.ShloMosaic.Lib.Pipeline.RegionTalk
public import Idealize.ShloMosaic.Lib.Tactic

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## Devices -/

/-- The device `s + 1` places on, in closed form. -/
theorem peer_val (s : Fin 3) (c : Dev nD) : (peer s c).val = (c.val + s.val + 1) % 4 := by revert s c; decide +kernel

/-- Going `s + 1` places on and then `3 - s` more is once around. -/
theorem peer_rev_peer (s : Fin 3) (c : Dev nD) : peer s.rev (peer s c) = c := by revert s c; decide +kernel
/-- Going on by `s` undoes going on by its reverse. -/
theorem peer_peer_rev (s : Fin 3) (c : Dev nD) : peer s (peer s.rev c) = c := by revert s c; decide +kernel

/-- Going `s + 1` places on permutes the devices. -/
def around (s : Fin 3) : Dev nD ≃ Dev nD := ⟨peer s, peer s.rev, peer_rev_peer s, peer_peer_rev s⟩

/-! ## Buffers, semaphores and cells, by layer, chunk and exchange -/

/-- The grid's point of chunk `j`. -/
def pt (j : Fin 8) : grid0.Coords := fun a => ⟨j.val, by obtain rfl : a = 0 := Subsingleton.elim _ _; exact j.isLt⟩

/-- Layer `k`'s send buffer, landing buffer, semaphore arrays and barrier semaphore. -/
def sendM (k : Fin 3) : Memref sig .tc .vmem S8x64x512 .bf16 :=
  match k with
  | 0 => Memref.whole cc0_scratch0
  | 1 => Memref.whole cc1_scratch0
  | 2 => Memref.whole cc2_scratch0
/-- The receive buffer of a layer. -/
def commM (k : Fin 3) : Memref sig .tc .vmem S8x3x64x512 .bf16 :=
  match k with
  | 0 => Memref.whole cc0_scratch1
  | 1 => Memref.whole cc1_scratch1
  | 2 => Memref.whole cc2_scratch1
/-- The send semaphores of a layer. -/
def sendS (k : Fin 3) : DmaSems sig S8x3 :=
  match k with
  | 0 => cc0_scratch2
  | 1 => cc1_scratch2
  | 2 => cc2_scratch2
/-- The receive semaphores of a layer. -/
def recvS (k : Fin 3) : DmaSems sig S8x3 :=
  match k with
  | 0 => cc0_scratch3
  | 1 => cc1_scratch3
  | 2 => cc2_scratch3
/-- The barrier semaphore of a layer. -/
def barS (k : Fin 3) : Sem sig :=
  match k with
  | 0 => sig.barrier 0 rfl
  | 1 => sig.barrier 1 rfl
  | 2 => sig.barrier 2 rfl

/-- The send buffer is a whole buffer, -/
theorem sendM_whole (k : Fin 3) : (sendM k).IsWhole := by
  match k with
  | 0 => exact Memref.isWhole_whole _
  | 1 => exact Memref.isWhole_whole _
  | 2 => exact Memref.isWhole_whole _
/-- and the receive buffer is. -/
theorem commM_whole (k : Fin 3) : (commM k).IsWhole := by
  match k with
  | 0 => exact Memref.isWhole_whole _
  | 1 => exact Memref.isWhole_whole _
  | 2 => exact Memref.isWhole_whole _

/-- Layer `k`'s send slot for chunk `j`, and its landing slot for chunk `j` and exchange `s`. -/
def sendSlot (k : Fin 3) (j : Fin 8) : Memref sig .tc .vmem S64x512 .bf16 := sendAt (sendM k) (pt j)
/-- The slot of the receive buffer for exchange `s` of chunk `j`. -/
def commSlot (k : Fin 3) (j : Fin 8) (s : Fin 3) : Memref sig .tc .vmem S64x512 .bf16 := slotAt (commM k) s (pt j)

/-- A cell's place in the protocol: a layer's barrier, or a send (`false`) or receive (`true`) semaphore. -/
abbrev Site : Type := Fin 3 ⊕ (Bool × Fin 3 × Fin 8 × Fin 3)

/-- The semaphore at a place. -/
def semOf : Site → SemLoc sig
  | .inl k => .reg (barS k)
  | .inr (false, k, j, s) => .dma (semAt (sendS k) s (pt j))
  | .inr (true, k, j, s) => .dma (semAt (recvS k) s (pt j))

/-- The place of a semaphore, read off its number. -/
def place : SemLoc sig → Option Site
  | .reg q => if h : q.val < 3 then some (.inl ⟨q.val, h⟩) else none
  | .dma q =>
    if h : q.val / 54 < 3 ∧ 6 ≤ q.val % 54 then
      some (.inr (decide (30 ≤ q.val % 54), ⟨q.val / 54, h.1⟩,
        ⟨((q.val % 54 - 6) % 24) / 3, by omega⟩, ⟨(q.val % 54 - 6) % 3, Nat.mod_lt _ (by decide)⟩))
    else none

/-- Reading a place's semaphore gives the place back, -/
theorem place_semOf : ∀ x : Site, place (semOf x) = some x := by decide +kernel

/-- Different places are different semaphores. -/
theorem semOf_inj : Function.Injective semOf := fun x y h => Option.some.inj ((place_semOf x).symm.trans ((congrArg place h).trans (place_semOf y)))

/-- The cell of a place on a device. -/
abbrev cellAt (c : Dev nD) (x : Site) : GSem nD τ sig := ((c : Thread nD τ), semOf x)
/-- A device's barrier cell of a layer. -/
abbrev barCell (k : Fin 3) (c : Dev nD) : GSem nD τ sig := cellAt c (.inl k)
/-- A device's send cell of an exchange. -/
abbrev sendCell (k : Fin 3) (j : Fin 8) (s : Fin 3) (c : Dev nD) : GSem nD τ sig := cellAt c (.inr (false, k, j, s))
/-- A device's receive cell of an exchange. -/
abbrev recvCell (k : Fin 3) (j : Fin 8) (s : Fin 3) (c : Dev nD) : GSem nD τ sig := cellAt c (.inr (true, k, j, s))

/-- Different devices or places have different cells. -/
theorem cellAt_inj {c c' : Dev nD} {x y : Site} (h : cellAt c x = cellAt c' y) : c = c' ∧ x = y :=
  ⟨congrArg (fun g : GSem nD τ sig => g.1.1) h, semOf_inj (congrArg Prod.snd h)⟩

/-- What one copy of a block credits. -/
def N : ℕ := (commSlot 0 0 0).view.dmaCredit

/-- A block is worth something. -/
theorem N_pos : 0 < N := View.dmaCredit_pos _ (by decide)

/-- A landing slot is worth a block, -/
theorem credit_comm (k : Fin 3) (j : Fin 8) (s : Fin 3) : (commSlot k j s).view.dmaCredit = N := by
  match k with
  | 0 => rfl
  | 1 => rfl
  | 2 => rfl
/-- and so is a send slot. -/
theorem credit_send (k : Fin 3) (j : Fin 8) : (sendSlot k j).view.dmaCredit = N := by
  match k with
  | 0 => rfl
  | 1 => rfl
  | 2 => rfl

/-! ## The resource algebra -/

/-- The protocol's records. -/
abbrev UD : Type := URounds (GSem nD τ sig) (Fin 3)
/-- The pipelines' records and the protocol's. -/
abbrev UU : Type := UR sig nD τ × UD

local notation "𝕄" => MT nD τ sig Unit (Elt F) ℕ UU ℕ

/-- The pipelines' part of them. -/
abbrev EP : Emb (UR sig nD τ) (MT nD τ sig Unit (Elt F) ℕ UU ℕ) := embL
/-- The protocol's part. -/
abbrev ER : Emb UD (MT nD τ sig Unit (Elt F) ℕ UU ℕ) := embR

/-! ## The schedule -/

/-- The part of a send slot that exchange `s` reads through. -/
def shr (s : Fin 3) : PosShare TreeShare :=
  match s with
  | 0 => fullShare.left
  | 1 => fullShare.right.left
  | 2 => fullShare.right.right

/-- A buffer owned whole at contents not named. -/
def anyAt (c : Dev nD) {sh : Shape} {e : EltTy} (m : Memref sig .tc .vmem sh e) : sProp 𝕄 := iprop(∃ X, owns (c : Thread nD τ) m fullShare X)

/-- A buffer with some contents may be kept in an invariant. -/
instance anyAt_storable (c : Dev nD) {sh : Shape} {e : EltTy} (m : Memref sig .tc .vmem sh e) :
    BI.Storable (upEmb : UEmb _ 𝕄) (anyAt (F := F) c m) := by unfold anyAt; infer_instance

/-- What the device `s + 1` places on gives `c` at layer `k`'s entry: its landing slots of exchange `s`, and the record that
    their receive cells take their first round. -/
def entryPay (k : Fin 3) (s : Fin 3) (c : Dev nD) : sProp 𝕄 :=
  bigSep Finset.univ fun j : Fin 8 => iprop(anyAt (peer s c) (commSlot k j s) ∗ reached ER (recvCell k j s (peer s c)) 0)

variable (B : Fin 3 → Fin 8 → Dev nD → Vec F S64x512 .bf16)

/-- What a landed block hands its receiver: the slot, at the block its sender sent. -/
def recvPay (k : Fin 3) (j : Fin 8) (s : Fin 3) (c : Dev nD) : sProp 𝕄 :=
  owns (c : Thread nD τ) (commSlot k j s) fullShare (B k j (peer s.rev c))
/-- What a finished read hands its sender: the part of the send slot it read through. -/
def sendPay (k : Fin 3) (j : Fin 8) (s : Fin 3) (c : Dev nD) : sProp 𝕄 :=
  owns (c : Thread nD τ) (sendSlot k j) (shr s) (B k j c)

/-- The duties of a place in its one round: a barrier has one from each other device, a copy's semaphore has one. -/
def sched : Rounds.Schedule (GSem nD τ sig) (Fin 3) 𝕄 where
  duties g r := if r = 0 ∧ g.1.2 = .tc then
      (match place g.2 with
       | none => ∅
       | some (.inl _) => Finset.univ
       | some (.inr _) => {0})
    else ∅
  unitless _ := False
  amount g _ _ := match place g.2 with
    | some (.inl _) => 1
    | _ => N
  payload g _ d := match place g.2 with
    | none => iprop(emp)
    | some (.inl k) => entryPay k d g.1.1
    | some (.inr (true, k, j, s)) => recvPay B k j s g.1.1
    | some (.inr (false, k, j, s)) => sendPay B k j s g.1.1
  amount_pos g _ _ _ := by
    show 0 < (match place g.2 with | some (.inl _) => 1 | _ => N)
    split
    · exact Nat.one_pos
    · exact N_pos

/-- So may whatever a duty hands over. -/
instance sched_storable (g : GSem nD τ sig) (r : ℕ) (d : Fin 3) : BI.Storable (upEmb : UEmb _ 𝕄) ((sched B).payload g r d) := by
  show BI.Storable upEmb (match place g.2 with
    | none => iprop(emp)
    | some (.inl k) => entryPay k d g.1.1
    | some (.inr (true, k, j, s)) => recvPay B k j s g.1.1
    | some (.inr (false, k, j, s)) => sendPay B k j s g.1.1)
  unfold entryPay recvPay sendPay
  split <;> infer_instance

section Facts

variable (c : Dev nD) (k : Fin 3) (j : Fin 8) (s : Fin 3)

/-- A barrier takes three duties, one from each peer. -/
theorem duties_bar : (sched B).duties (barCell k c) 0 = Finset.univ := by
  dsimp only [sched]; rw [if_pos ⟨rfl, rfl⟩, place_semOf]
/-- A copy cell takes one duty. -/
theorem duties_dma (b : Bool) : (sched B).duties (cellAt c (.inr (b, k, j, s))) 0 = {0} := by
  dsimp only [sched]; rw [if_pos ⟨rfl, rfl⟩, place_semOf]
/-- No cell takes a second round. -/
theorem duties_later (g : GSem nD τ sig) : ∀ r, 1 ≤ r → (sched B).duties g r = ∅ :=
  fun r hr => by dsimp only [sched]; rw [if_neg (fun h => by omega)]

/-- A signal counts one. -/
theorem amount_bar (d : Fin 3) : (sched B).amount (barCell k c) 0 d = 1 := by dsimp only [sched]; rw [place_semOf]
/-- A copy counts its bytes. -/
theorem amount_dma (b : Bool) (d : Fin 3) : (sched B).amount (cellAt c (.inr (b, k, j, s))) 0 d = N := by dsimp only [sched]; rw [place_semOf]

/-- A barrier waits for three. -/
theorem expect_bar : (sched B).expect (barCell k c) 0 = 3 := by
  unfold Schedule.expect Schedule.amountOf; rw [duties_bar, Finset.sum_congr rfl fun d _ => amount_bar B c k d]; rfl
/-- A copy cell waits for one block. -/
theorem expect_dma (b : Bool) : (sched B).expect (cellAt c (.inr (b, k, j, s))) 0 = N := by
  unfold Schedule.expect Schedule.amountOf; rw [duties_dma, Finset.sum_singleton, amount_dma]

/-- A signal hands over the signalling device's landing slots, -/
theorem payload_bar (d : Fin 3) : (sched B).payload (barCell k c) 0 d = entryPay k d c := by dsimp only [sched]; rw [place_semOf]
/-- an arrival hands over the slot with the block in it, -/
theorem payload_recv (d : Fin 3) : (sched B).payload (recvCell k j s c) 0 d = recvPay B k j s c := by dsimp only [sched]; rw [place_semOf]
/-- a finished send hands the send slot back. -/
theorem payload_send (d : Fin 3) : (sched B).payload (sendCell k j s c) 0 d = sendPay B k j s c := by dsimp only [sched]; rw [place_semOf]

/-- All that a barrier's wait receives, -/
theorem rest_bar : bigSep ((sched B).duties (barCell k c) 0 \ ∅) (fun d => (sched B).payload (barCell k c) 0 d)
    = iprop(entryPay k 0 c ∗ entryPay k 1 c ∗ entryPay k 2 c) := by
  rw [Finset.sdiff_empty, duties_bar, bigSep_congr fun d _ => payload_bar B c k d]
  rw [bigSep_univ_eq_bigSepL [0, 1, 2] (by decide) (by decide)]
  rfl
/-- all that a receive cell's wait receives, -/
theorem rest_recv : bigSep ((sched B).duties (recvCell k j s c) 0 \ ∅) (fun d => (sched B).payload (recvCell k j s c) 0 d) = recvPay B k j s c := by
  rw [Finset.sdiff_empty, duties_dma, bigSep_singleton, payload_recv]
/-- and all that a send cell's wait receives. -/
theorem rest_send : bigSep ((sched B).duties (sendCell k j s c) 0 \ ∅) (fun d => (sched B).payload (sendCell k j s c) 0 d) = sendPay B k j s c := by
  rw [Finset.sdiff_empty, duties_dma, bigSep_singleton, payload_send]

end Facts

/-! ## Levels -/

/-- Every cell of a core has the one level name. -/
def L (g : GSem nD τ sig) : Finset Unit := if g.1.2 = .tc then {()} else ∅

/-- A layer's barrier comes before its receive cells, those in the order they are waited for, and the whole layer before the
    next; what is waited for with nothing of its own behind it is at zero. -/
def lv (g : GSem nD τ sig) (_ : Unit) : ℕ :=
  match place g.2 with
  | some (.inl k) => 54 * k.val + 1
  | some (.inr (true, k, j, s)) => 54 * k.val + 2 + 3 * j.val + s.val
  | _ => 0

/-- Other threads have no levels. -/
theorem L_of_ne (g : GSem nD τ sig) (h : g.1.2 ≠ .tc) : L g = ∅ := if_neg h
/-- Every cell of a core has its level. -/
theorem L_tc (c : Dev nD) (sm : SemLoc sig) : L ((c : Thread nD τ), sm) = {()} := if_pos rfl
/-- A barrier's level. -/
theorem lv_bar (k : Fin 3) (c : Dev nD) : lv (barCell k c) () = 54 * k.val + 1 := by dsimp only [lv]; rw [place_semOf]
/-- A receive cell's level. -/
theorem lv_recv (k : Fin 3) (j : Fin 8) (s : Fin 3) (c : Dev nD) : lv (recvCell k j s c) () = 54 * k.val + 2 + 3 * j.val + s.val := by
  dsimp only [lv]; rw [place_semOf]
/-- A send cell's level. -/
theorem lv_send (k : Fin 3) (j : Fin 8) (s : Fin 3) (c : Dev nD) : lv (sendCell k j s c) () = 0 := by dsimp only [lv]; rw [place_semOf]

/-- What is owed is owed to cells at levels over `n`. -/
def Above (n : ℕ) (O : CellTallies nD τ sig Unit) : Prop := ∀ g u, 0 < O g u → u ∈ L g ∧ n < lv g u

/-- Nothing owed is owed above any level. -/
theorem Above.zero (n : ℕ) : Above n 0 := fun _ _ h => absurd h (Nat.lt_irrefl 0)
/-- Two dues above a level are so together, -/
theorem Above.add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
/-- and so are many. -/
theorem Above.sum {ι : Type} {n : ℕ} {s : Finset ι} {f : ι → CellTallies nD τ sig Unit} (h : ∀ i ∈ s, Above n (f i)) : Above n (∑ i ∈ s, f i) :=
  Finset.sum_induction f (Above n) (fun _ _ => Above.add) (Above.zero n) h
/-- One due is above any level below its cell. -/
theorem Above.tally {n : ℕ} (c : Dev nD) (x : Site) (v : ℕ) (h : n < lv (cellAt c x) ()) : Above n (tallyAt (cellAt c x) () v) := fun g u hg => by
  rw [tallyAt_apply] at hg
  split at hg
  · next e => obtain ⟨rfl, rfl⟩ := e; exact ⟨by rw [L_tc]; exact Finset.mem_singleton_self _, h⟩
  · exact absurd hg (Nat.lt_irrefl 0)

/-- A cell may be waited for by one who owes only to cells at higher levels. -/
theorem Above.mayWait {O : CellTallies nD τ sig Unit} (c : Dev nD) (x : Site) (h : Above (lv (cellAt c x) ()) O) :
    (levAts L lv : sProp 𝕄) ⊢ MayWait (c : Thread nD τ) (semOf x) () O :=
  MayOwe.of_cut (L := L) (lev := lv) (lv (cellAt c x) ()) (fun p hp => by rw [Finset.mem_singleton.mp hp, L_tc]; exact Finset.mem_singleton_self _)
    (fun g u hg => (h g u hg).1) (fun p hp => by rw [Finset.mem_singleton.mp hp]) (fun g u hg => (h g u hg).2)

/-! ## What is owed -/

/-- What device `c` owes for one chunk of a layer: a block to each other device. -/
def copyDue (k : Fin 3) (j : Fin 8) (c : Dev nD) : CellTallies nD τ sig Unit := ∑ s : Fin 3, tallyAt (recvCell k j s (peer s c)) () N
/-- What it owes at a layer's entry: a signal to each other device. -/
def entryDue (k : Fin 3) (c : Dev nD) : CellTallies nD τ sig Unit := ∑ s : Fin 3, tallyAt (barCell k (peer s c)) () 1
/-- What it owes for the chunks of a layer from `t` on. -/
def chunksDue (k : Fin 3) (t : ℕ) (c : Dev nD) : CellTallies nD τ sig Unit := ∑ j ∈ Finset.univ.filter (fun j : Fin 8 => t ≤ j.val), copyDue k j c
/-- What it owes for a layer that it has brought up to chunk `t`. -/
def layerDue (k : Fin 3) (t : ℕ) (c : Dev nD) : CellTallies nD τ sig Unit := chunksDue k t c + (if t = 0 then entryDue k c else 0)
/-- What it owes for the layers after `k`. -/
def laterDue (k : Fin 3) (c : Dev nD) : CellTallies nD τ sig Unit := ∑ k' ∈ Finset.univ.filter (fun k' : Fin 3 => k < k'), layerDue k' 0 c

/-- A chunk's copies are owed above everything before that chunk. -/
theorem copyDue_above {k : Fin 3} {j : Fin 8} {c : Dev nD} {n : ℕ} (h : n < 54 * k.val + 2 + 3 * j.val) : Above n (copyDue k j c) :=
  Above.sum fun s _ => Above.tally _ _ _ (by rw [lv_recv]; omega)
/-- A layer's signals are owed above everything before that layer. -/
theorem entryDue_above {k : Fin 3} {c : Dev nD} {n : ℕ} (h : n < 54 * k.val + 1) : Above n (entryDue k c) :=
  Above.sum fun s _ => Above.tally _ _ _ (by rw [lv_bar]; omega)
/-- A layer's chunks from `t` on are owed above everything before chunk `t`. -/
theorem chunksDue_above {k : Fin 3} {t : ℕ} {c : Dev nD} {n : ℕ} (h : n < 54 * k.val + 2 + 3 * t) : Above n (chunksDue k t c) :=
  Above.sum fun j hj => copyDue_above (by have := (Finset.mem_filter.mp hj).2; omega)
/-- A layer is owed above everything before it. -/
theorem layerDue_above {k : Fin 3} {t : ℕ} {c : Dev nD} {n : ℕ} (h : n < 54 * k.val + 1) : Above n (layerDue k t c) :=
  (chunksDue_above (by omega)).add (by split; exacts [entryDue_above h, Above.zero n])
/-- The later layers are owed above the whole of this one. -/
theorem laterDue_above {k : Fin 3} {c : Dev nD} {n : ℕ} (h : n < 54 * (k.val + 1)) : Above n (laterDue k c) :=
  Above.sum fun k' hk => layerDue_above (by have : k.val < k'.val := (Finset.mem_filter.mp hk).2; omega)

/-- Bringing a layer from chunk `j` to the next pays that chunk's blocks. -/
theorem chunksDue_step (k : Fin 3) (j : Fin 8) (c : Dev nD) : chunksDue k j.val c = chunksDue k (j.val + 1) c + copyDue k j c := by
  unfold chunksDue
  rw [show Finset.univ.filter (fun i : Fin 8 => j.val ≤ i.val) = insert j (Finset.univ.filter (fun i : Fin 8 => j.val + 1 ≤ i.val)) from by
      revert j; decide,
    Finset.sum_insert (by simp), add_comm]

/-- After the eighth chunk nothing is owed for the chunks. -/
theorem chunksDue_end (k : Fin 3) (c : Dev nD) : chunksDue k 8 c = 0 := by
  unfold chunksDue
  rw [show Finset.univ.filter (fun i : Fin 8 => 8 ≤ i.val) = ∅ from by decide, Finset.sum_empty]

end Cert.KernelIdeal.Tp

end
-- ==== Proof.Ideal.Mem.lean ====
/- Loads and stores of a buffer owned through a memref: of a whole matrix, and of a slot that a reshape of one of its blocks
   names. -/
module

public import proofs.«01_k».proof.Proof.Ideal.Sched
public import Idealize.ShloMosaic.Lib.ViewIndex
public import Idealize.ShloMosaic.Lib.Writes

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- No loop of the kernel has a variant. -/
abbrev 𝒱₀ : Variants := Variants.none

/-- The weakest precondition of a program of device `c`'s core. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A program runs part by part. -/
theorem runs_bind {α β : Type} (c : Dev nD) (p : Prog (TpuEff nD τ sig (Elt F) Λ₀ .tc) α) (g : α → Prog (TpuEff nD τ sig (Elt F) Λ₀ .tc) β)
    (Q : β → sProp 𝕄) : runs c (p >>= g) Q = runs c p fun a => runs c (g a) Q := wp_bind _ _ _ _ _ _

/-- A program that does nothing. -/
theorem runs_pure {α : Type} (c : Dev nD) (a : α) (Q : α → sProp 𝕄) : Q a ⊢ runs c (pure a) Q := by
  show Q a ⊢ wp frame _ Set.univ (.ret a) Q
  rw [wp_ret]
  iintro H
  imodintro
  iexact H

/-! ## Whole matrices -/

/-- The block at the origin of a matrix's own size is the matrix. -/
theorem origin_emb {m n : Nat} (h : ∀ a, (![0, 0] : Fin 2 → Nat) a + (⟨2, ![m, n]⟩ : Shape).size a ≤ (⟨2, ![m, n]⟩ : Shape).size a)
    (i : (⟨2, ![m, n]⟩ : Shape).Idx) : (Rect.unit (s := ⟨2, ![m, n]⟩) ![0, 0] (⟨2, ![m, n]⟩ : Shape).size h).emb i = i := by
  funext a
  apply Fin.ext
  match a with
  | ⟨0, _⟩ => rw [Rect.emb_apply]; exact (Nat.zero_add _).trans (Nat.one_mul _)
  | ⟨1, _⟩ => rw [Rect.emb_apply]; exact (Nat.zero_add _).trans (Nat.one_mul _)

/-- A load of a whole matrix gives what is owned through the memref. -/
theorem loadAll_run (c : Dev nD) {m n : Nat} {e : EltTy} (a : Memref sig .tc .vmem ⟨2, ![m, n]⟩ e) (h hp) (q : PosShare TreeShare)
    (X : (⟨2, ![m, n]⟩ : Shape).Idx → Elt F e) (Q : Vec F ⟨2, ![m, n]⟩ e → sProp 𝕄) :
    owns (c : Thread nD τ) a q X ⊢ iprop((owns (c : Thread nD τ) a q X -∗ Q X) -∗ runs c (loadAll m n a h hp) Q) := by
  unfold owns
  iintro ⟨%f, %hf, H⟩ HQ
  have hv : (a.access (Rect.unit (s := ⟨2, ![m, n]⟩) ![0, 0] (⟨2, ![m, n]⟩ : Shape).size h)).read (Elt F) f = X := by
    funext i
    rw [← hf]
    show a.view.read (Elt F) f _ = _
    rw [origin_emb h i]
  iapply (wp_load_rect 𝒱₀ (c : Thread nD τ) none Set.univ (m := a) (r := Rect.unit (s := ⟨2, ![m, n]⟩) ![0, 0] (⟨2, ![m, n]⟩ : Shape).size h)
    (S := a.view.set) (f := f) (View.set_slice_subset _ _)) $$ H
  iintro H
  rw [wp_ret, hv]
  imodintro
  iapply HQ
  iexists f
  isplitr; · ipureintro; exact hf
  iexact H

/-- A store of the whole result block. -/
theorem storeOut_run (c : Dev nD) (a : Memref sig .tc .vmem S64x2048 .f32) (X w : Vec F S64x2048 .f32) (Q : PUnit → sProp 𝕄) :
    owns (c : Thread nD τ) a fullShare X ⊢ iprop((owns (c : Thread nD τ) a fullShare w -∗ Q ⟨⟩) -∗ runs c (storeOut a w) Q) := by
  unfold owns
  iintro ⟨%f, -, H⟩ HQ
  iapply (wp_store 𝒱₀ (c : Thread nD τ) none Set.univ (m := a) (r := Rect.unit (s := S64x2048) ![0, 0] S64x2048.size inb_S64x2048_S64x2048_0_0)
    (S := a.view.set) (f := f) (subset_trans (View.setOn_subset_set _ _) (View.set_slice_subset _ _))) $$ H
  iintro H
  rw [wp_ret]
  imodintro
  iapply HQ
  iexists _
  isplitr
  rotate_left
  · iexact H
  ipureintro
  funext i
  have e := View.read_write_of_mem (v := a.view.slice (Rect.unit (s := S64x2048) ![0, 0] S64x2048.size inb_S64x2048_S64x2048_0_0)) (Val := Elt F) f w (Finset.mem_univ i)
  refine Eq.trans ?_ e
  show _ = a.view.read (Elt F) _ _
  rw [origin_emb inb_S64x2048_S64x2048_0_0 i]

/-! ## Slots -/

/-- Recasting to a shape and back is the identity. -/
theorem reshape_back {s s' : Shape} (h : s'.numel = s.numel) (h' : s.numel = s'.numel) (x : s'.Idx) :
    Shape.reshapeEquiv h' (Shape.reshapeEquiv h x) = x := by
  rw [Shape.reshapeEquiv_reshapeEquiv, Shape.reshapeEquiv_self]

/-- A load of the block that a slot is the recast of gives the slot's contents recast. -/
theorem loadSlot_run (c : Dev nD) {s s' : Shape} {e : EltTy} (m : Memref sig .tc .vmem s e) (r : Rect s) (hr : ∀ a, r.stride a = 1)
    (h : r.shape.Squeezes s') (hl) (q : PosShare TreeShare) (X : s'.Idx → Elt F e) (hc : r.shape.ShapeCasts s')
    (Q : (r.shape.Idx → Elt F e) → sProp 𝕄) :
    owns (c : Thread nD τ) ((m.slice r hr).squeeze s' h) q X
      ⊢ iprop((∀ v, ⌜shapeCast s' v hc = X⌝ -∗ owns (c : Thread nD τ) ((m.slice r hr).squeeze s' h) q X -∗ Q v)
        -∗ runs c (Prog.lift (.load m r.toLoadRect hl)) Q) := by
  unfold owns
  iintro ⟨%f, %hf, H⟩ HQ
  iapply (wp_load_rect 𝒱₀ (c : Thread nD τ) none Set.univ (m := m) (r := r) (f := f) (S := ((m.slice r hr).squeeze s' h).view.set) (View.set_reshape _ _).ge) $$ H
  iintro H
  rw [wp_ret]
  imodintro
  ispecialize HQ $$ %((m.access r).read (Elt F) f)
  iapply HQ
  · ipureintro; exact hf
  iexists f
  isplitr; · ipureintro; exact hf
  iexact H

/-- A store, recast, of the block that a slot is the recast of. -/
theorem storeSlot_run (c : Dev nD) {s s' : Shape} {e : EltTy} (m : Memref sig .tc .vmem s e) (r : Rect s) (hr : ∀ a, r.stride a = 1)
    (h : r.shape.Squeezes s') (hx hm) (X X' : s'.Idx → Elt F e) (hc : s'.ShapeCasts r.shape) (Q : PUnit → sProp 𝕄) :
    owns (c : Thread nD τ) ((m.slice r hr).squeeze s' h) fullShare X
      ⊢ iprop((owns (c : Thread nD τ) ((m.slice r hr).squeeze s' h) fullShare X' -∗ Q ⟨⟩)
        -∗ runs c (Prog.lift (.store m r (shapeCast r.shape X' hc) Finset.univ hx hm)) Q) := by
  unfold owns
  iintro ⟨%f, -, H⟩ HQ
  iapply (wp_store 𝒱₀ (c : Thread nD τ) none Set.univ (m := m) (r := r) (f := f) (S := ((m.slice r hr).squeeze s' h).view.set)
    (subset_trans (View.setOn_subset_set _ _) (View.set_reshape _ _).ge)) $$ H
  iintro H
  rw [wp_ret]
  imodintro
  iapply HQ
  iexists _
  isplitr
  rotate_left
  · iexact H
  ipureintro
  funext i
  refine Eq.trans (View.read_write_of_mem (v := m.access r) (Val := Elt F) f (shapeCast r.shape X' hc) (Finset.mem_univ (Shape.reshapeEquiv h.numel_eq i))) ?_
  show X' (Shape.reshapeEquiv hc (Shape.reshapeEquiv h.numel_eq i)) = X' i
  rw [reshape_back]

end Cert.KernelIdeal.Tp

end
-- ==== Proof.Ideal.Steps.lean ====
/- What each operation of a chunk does with the protocol's resources: a copy started, a block received, a read finished, and
   the exchange of signals at a layer's entry. -/
module

public import proofs.«01_k».proof.Proof.Ideal.Mem

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (B : Fin 3 → Fin 8 → Dev nD → Vec F S64x512 .bf16) (κ : GSem nD τ sig → ℕ)

/-- Every cell's invariant, at the name it has. -/
def invs : sProp 𝕄 := bigSep Finset.univ fun p : Dev nD × Site => cellInv ER (sched B) (κ (cellAt p.1 p.2)) (cellAt p.1 p.2)

/-- The invariants may be opened any number of times. -/
instance invs_persistent : BI.Persistent (invs B κ) := by unfold invs; infer_instance

/-- One cell's invariant, out of all of them. -/
theorem invs_get (c : Dev nD) (x : Site) : invs B κ ⊢ cellInv ER (sched B) (κ (cellAt c x)) (cellAt c x) :=
  bigSep_elim (Finset.mem_univ ((c, x) : Dev nD × Site))

/-- What a core owes, the waits it has recorded not named. -/
def debt (c : Dev nD) (O : CellTallies nD τ sig Unit) : sProp 𝕄 := iprop(∃ W, owes (c : Thread nD τ) O W)

/-- Slots at one corner are one slot. -/
theorem slot_congr (m : Memref sig .tc .vmem S8x3x64x512 .bf16) {o o' : Fin 4 → ℕ} (h : o = o')
    (hb : ∀ a, o a + S1x1x64x512.size a ≤ S8x3x64x512.size a) (hb' : ∀ a, o' a + S1x1x64x512.size a ≤ S8x3x64x512.size a) :
    (m.slice (Rect.unit (s := S8x3x64x512) o S1x1x64x512.size hb) (fun _ => rfl)).squeeze S64x512 squeezes_S1x1x64x512_S64x512
      = (m.slice (Rect.unit (s := S8x3x64x512) o' S1x1x64x512.size hb') (fun _ => rfl)).squeeze S64x512 squeezes_S1x1x64x512_S64x512 := by
  subst h; rfl
/-- A slot of the send buffer depends only on where it starts. -/
theorem send_congr (m : Memref sig .tc .vmem S8x64x512 .bf16) {o o' : Fin 3 → ℕ} (h : o = o')
    (hb : ∀ a, o a + S1x64x512.size a ≤ S8x64x512.size a) (hb' : ∀ a, o' a + S1x64x512.size a ≤ S8x64x512.size a) :
    (m.slice (Rect.unit (s := S8x64x512) o S1x64x512.size hb) (fun _ => rfl)).squeeze S64x512 squeezes_S1x64x512_S64x512
      = (m.slice (Rect.unit (s := S8x64x512) o' S1x64x512.size hb') (fun _ => rfl)).squeeze S64x512 squeezes_S1x64x512_S64x512 := by
  subst h; rfl

/-- Three dues added last to first. -/
theorem add_three (O x y z : CellTallies nD τ sig Unit) : O + (x + y + z) = ((O + z) + y) + x := by
  rw [add_comm (x + y) z, add_comm x y, ← add_assoc, ← add_assoc]

section Ops

variable (k : Fin 3) (j : Fin 8) (s : Fin 3) (c : Dev nD) (O : CellTallies nD τ sig Unit)

/-- A copy started: the part of the send slot it reads through and the landing slot go, the credit for its end comes. -/
theorem ship_run (Q : PUnit → sProp 𝕄) :
    iprop(invs B κ ∗ owns (c : Thread nD τ) (sendSlot k j) (shr s) (B k j c) ∗ anyAt (peer s c) (commSlot k j s)
        ∗ debt c (O + tallyAt (recvCell k j s (peer s c)) () N)
        ∗ dutyTok ER (sendCell k j s c) 0 0 ∗ reached ER (sendCell k j s c) 0
        ∗ dutyTok ER (recvCell k j s (peer s c)) 0 0 ∗ reached ER (recvCell k j s (peer s c)) 0)
      ⊢ iprop((cred (tallyAt (sendCell k j s c) () N) ∗ debt c O -∗ Q ⟨⟩)
        -∗ runs c (ship (pt j) c (sendM k) (sendM_whole k) (commM k) (commM_whole k) (sendS k) (recvS k) s) Q) := by
  unfold anyAt debt owns ship
  iintro ⟨#Hinv, ⟨%fs, %hfs, Hsrc⟩, ⟨%X, %fd, -, Hdst⟩, ⟨%W, HO⟩, Ht1, Hr1, Ht2, Hr2⟩ HQ
  iapply (Rounds.wp_send_pointsTo 𝒱₀ ER (sched B) (c : Thread nD τ) none (c' := (peer s c : Thread nD τ)) (src := sendSlot k j) (dst := commSlot k j s)
    (sS := semOf (.inr (false, k, j, s))) (sem := semOf (.inr (true, k, j, s))) (q := shr s) (fs := fs) (fd := fd) (r₁ := 0) (r₂ := 0) (d₁ := 0) (d₂ := 0)
    (κ₁ := κ (sendCell k j s c)) (κ₂ := κ (recvCell k j s (peer s c)))
    (by rw [duties_dma]; exact Finset.mem_singleton_self _) (by rw [duties_dma]; exact Finset.mem_singleton_self _)
    () () N (credit_comm k j s) (amount_dma B c k j s false 0) (amount_dma B (peer s c) k j s true 0) O rfl (W := W)
    (by
      rw [payload_send]; unfold sendPay owns
      iintro H; iexists fs; isplitr; · ipureintro; exact hfs
      iexact H)
    (by
      rw [payload_recv]; unfold recvPay owns
      iintro H; iexists _; isplitr; rotate_left; · iexact H
      ipureintro
      rw [peer_rev_peer, ← hfs]
      exact View.read_write_univ _ _))
    $$ [Hsrc Hdst HO Ht1 Hr1 Ht2 Hr2]
  · isplitr; · iapply (invs_get B κ c _) $$ Hinv
    isplitr; · iapply (invs_get B κ (peer s c) _) $$ Hinv
    isplitl [Hsrc]; · iexact Hsrc
    isplitl [Hdst]; · iexact Hdst
    isplitl [HO]; · iexact HO
    isplitl [Ht1]; · iexact Ht1
    isplitl [Hr1]; · iexact Hr1
    isplitl [Ht2]; · iexact Ht2
    iexact Hr2
  iintro ⟨Hc, HO⟩
  rw [wp_ret]
  imodintro
  iapply HQ
  isplitl [Hc]; · iexact Hc
  iexists W
  iexact HO

/-- A block received and read: the slot comes at the block its sender sent, and the receive cell is spent. -/
theorem gather_run (hO : Above (lv (recvCell k j s c) ()) O) (Q : Vec F S1x1x64x512 .bf16 → sProp 𝕄) :
    iprop(invs B κ ∗ levAts L lv ∗ cred (tallyAt (recvCell k j s c) () N) ∗ debt c O ∗ atPos ER (recvCell k j s c) 0 ∅ 0)
      ⊢ iprop((∀ v, ⌜shapeCast S64x512 v shapeCasts_S1x1x64x512_S64x512 = B k j (peer s.rev c)⌝
            -∗ (debt c O ∗ semVal (recvCell k j s c) 0 ∗ anyAt c (commSlot k j s)) -∗ Q v)
        -∗ runs c (gather (pt j) (sendM k) (sendM_whole k) (commM k) (commM_whole k) (recvS k) s) Q) := by
  unfold debt gather
  iintro ⟨#Hinv, #Hlev, Hc, ⟨%W, HO⟩, Hat⟩ HQ
  rw [runs_bind]
  iapply (Rounds.wp_wait_rest_token 𝒱₀ ER (sched B) (c : Thread nD τ) none (κ := κ (recvCell k j s c)) (sm := semOf (.inr (true, k, j, s)))
    (k' := (commSlot k j s).view.dmaCredit)
    (wpE_waitDma2_eq 𝒱₀ (c : Thread nD τ) none Set.univ) (Set.mem_univ _) () (O := O) (W := W) (R := 0) (m := 0) (T := ∅)
    ((Nat.zero_add _).trans ((credit_comm k j s).trans (expect_dma B c k j s true).symm)))
    $$ [Hc HO Hat]
  · isplitr; · iapply (invs_get B κ c _) $$ Hinv
    rw [credit_comm]
    isplitl [Hc]; · iexact Hc
    isplitl [HO]; · iexact HO
    isplitr; · iapply (hO.mayWait c _) $$ Hlev
    iexact Hat
  rw [rest_recv]
  iintro ⟨HO, Hat, -, Hpay⟩
  rw [wp_ret]
  imod (Rounds.cell_close ER (sched B) (g := recvCell k j s c) (Set.mem_univ (κ (recvCell k j s c))) id (R := 0 + 1) (duties_later B _)) $$ [Hat] with Hv
  · isplitr; · iapply (invs_get B κ c _) $$ Hinv
    iexact Hat
  imodintro
  unfold recvPay
  have e : commSlot k j s = ((commM k).slice (Rect.unit (s := S8x3x64x512) (readOff s (pt j)) S1x1x64x512.size (readOff_inb s (pt j))) (fun _ => rfl)).squeeze
      S64x512 squeezes_S1x1x64x512_S64x512 := slot_congr _ (readOff_slotOff s (pt j)).symm _ _
  rw [e]
  iapply (loadSlot_run c (commM k) _ (fun _ => rfl) squeezes_S1x1x64x512_S64x512 _ fullShare _ shapeCasts_S1x1x64x512_S64x512 Q) $$ Hpay
  iintro %v %hv Hs
  ispecialize HQ $$ %v
  iapply HQ
  · ipureintro; exact hv
  isplitl [HO]; · iexists _; iexact HO
  isplitl [Hv]; · iexact Hv
  unfold anyAt
  iexists _
  iexact Hs

/-- A read finished: its part of the send slot comes back, and the send cell is spent. -/
theorem drain_run (Q : PUnit → sProp 𝕄) (hO : Above 0 O) :
    iprop(invs B κ ∗ levAts L lv ∗ cred (tallyAt (sendCell k j s c) () N) ∗ debt c O ∗ atPos ER (sendCell k j s c) 0 ∅ 0)
      ⊢ iprop(((debt c O ∗ semVal (sendCell k j s c) 0 ∗ owns (c : Thread nD τ) (sendSlot k j) (shr s) (B k j c)) -∗ Q ⟨⟩)
        -∗ runs c (drain (pt j) (sendM k) (sendM_whole k) (commM k) (commM_whole k) (sendS k) s) Q) := by
  unfold debt drain
  iintro ⟨#Hinv, #Hlev, Hc, ⟨%W, HO⟩, Hat⟩ HQ
  iapply (Rounds.wp_wait_rest_token 𝒱₀ ER (sched B) (c : Thread nD τ) none (κ := κ (sendCell k j s c)) (sm := semOf (.inr (false, k, j, s)))
    (k' := (sendSlot k j).view.dmaCredit)
    (wpE_waitDma2_eq 𝒱₀ (c : Thread nD τ) none Set.univ) (Set.mem_univ _) () (O := O) (W := W) (R := 0) (m := 0) (T := ∅)
    ((Nat.zero_add _).trans ((credit_send k j).trans (expect_dma B c k j s false).symm)))
    $$ [Hc HO Hat]
  · isplitr; · iapply (invs_get B κ c _) $$ Hinv
    rw [credit_send]
    isplitl [Hc]; · iexact Hc
    isplitl [HO]; · iexact HO
    isplitr
    · iapply (Above.mayWait c _ (by rw [lv_send]; exact hO)) $$ Hlev
    iexact Hat
  rw [rest_send]
  iintro ⟨HO, Hat, -, Hpay⟩
  rw [wp_ret]
  imod (Rounds.cell_close ER (sched B) (g := sendCell k j s c) (Set.mem_univ (κ (sendCell k j s c))) id (R := 0 + 1) (duties_later B _)) $$ [Hat] with Hv
  · isplitr; · iapply (invs_get B κ c _) $$ Hinv
    iexact Hat
  imodintro
  iapply HQ
  isplitl [HO]; · iexists _; iexact HO
  isplitl [Hv]; · iexact Hv
  unfold sendPay
  iexact Hpay

/-- The send slot read for nothing, then filled. -/
theorem fill_run (X : Vec F S64x512 .bf16) (h1 h2 h3) (hc : S64x512.ShapeCasts S1x64x512) (Q : PUnit → sProp 𝕄) :
    anyAt c (sendSlot k j)
      ⊢ iprop((owns (c : Thread nD τ) (sendSlot k j) fullShare X -∗ Q ⟨⟩)
        -∗ runs c (do
            let _ ← Prog.lift (.load (sendM k) (Rect.unit (s := S8x64x512) (k0_off1 (pt j)) S1x64x512.size (k0_off1_inb (pt j))).toLoadRect h1)
            Prog.lift (.store (sendM k) (Rect.unit (s := S8x64x512) (k0_off1 (pt j)) S1x64x512.size (k0_off1_inb (pt j)))
              (shapeCast S1x64x512 X hc) Finset.univ h2 h3)) Q) := by
  unfold anyAt
  rw [show sendSlot k j = _ from send_congr (sendM k) (sendOff_eq (pt j)).symm _ (k0_off1_inb (pt j))]
  iintro ⟨%X0, H⟩ HQ
  rw [runs_bind]
  iapply (loadSlot_run c (sendM k) _ (fun _ => rfl) squeezes_S1x64x512_S64x512 _ fullShare _ squeezes_S1x64x512_S64x512.numel_eq) $$ H
  iintro %v - H
  iapply (storeSlot_run c (sendM k) _ (fun _ => rfl) squeezes_S1x64x512_S64x512 _ _ X0 X hc) $$ H
  iexact HQ

/-! ## A layer's entry -/

/-- What a signal to the device `s + 1` places on takes: the duty, this device's landing slots for what comes back, and that
    the barrier takes its first round. -/
def entryTok : sProp 𝕄 :=
  iprop(dutyTok ER (barCell k (peer s c)) 0 s.rev ∗ entryPay k s.rev (peer s c) ∗ reached ER (barCell k (peer s c)) 0)

/-- A signal to a peer's barrier: it pays one due and hands over this device's landing slots for that peer. -/
theorem signal_run (Q : PUnit → sProp 𝕄) :
    iprop(invs B κ ∗ debt c (O + tallyAt (barCell k (peer s c)) () 1) ∗ entryTok k s c)
      ⊢ iprop((debt c O -∗ Q ⟨⟩) -∗ runs c (semSignalWord (peer s c) (barS k) 1#32) Q) := by
  unfold debt entryTok semSignalWord
  iintro ⟨#Hinv, ⟨%W, HO⟩, Ht, Hpay, Hr⟩ HQ
  iapply (Rounds.wp_signal 𝒱₀ ER (sched B) (c : Thread nD τ) none (dst := (peer s c : Thread nD τ)) (sem := barS k) (r := 0) (d := s.rev) (k' := 1)
    (κ := κ (barCell k (peer s c))) (by rw [show ((peer s c : Thread nD τ), SemLoc.reg (barS k)) = barCell k (peer s c) from rfl, duties_bar]; exact Finset.mem_univ _)
    (amount_bar B (peer s c) k s.rev) () O rfl (W := W)) $$ [HO Ht Hpay Hr]
  · isplitr; · iapply (invs_get B κ (peer s c) (.inl k)) $$ Hinv
    isplitl [HO]; · iexact HO
    isplitl [Ht]; · iexact Ht
    isplitl [Hpay]
    · rw [show ((peer s c : Thread nD τ), SemLoc.reg (barS k)) = barCell k (peer s c) from rfl, payload_bar]; iexact Hpay
    iexact Hr
  iintro HO
  rw [wp_ret]
  imodintro
  iapply HQ
  iexists W
  iexact HO

/-- The entry of a layer: each other device hands over its landing slots for this one's blocks, the barrier is spent, the
    result is cleared. -/
theorem enter_run (out : Memref sig .tc .vmem S64x2048 .f32) (X : Vec F S64x2048 .f32) (Q : PUnit → sProp 𝕄)
    (hO : Above (lv (barCell k c) ()) O) :
    iprop(invs B κ ∗ levAts L lv ∗ debt c (O + entryDue k c) ∗ entryTok k 0 c ∗ entryTok k 1 c ∗ entryTok k 2 c
        ∗ cred (tallyAt (barCell k c) () 3) ∗ atPos ER (barCell k c) 0 ∅ 0 ∗ owns (c : Thread nD τ) out fullShare X)
      ⊢ iprop((debt c O ∗ semVal (barCell k c) 0 ∗ (entryPay k 0 c ∗ entryPay k 1 c ∗ entryPay k 2 c)
            ∗ owns (c : Thread nD τ) out fullShare (k0_pay1 (F := F)) -∗ Q ⟨⟩)
        -∗ runs c (enter c (barS k) out) Q) := by
  unfold enter
  iintro ⟨#Hinv, #Hlev, HO, He0, He1, He2, Hc, Hat, Hout⟩ HQ
  rw [show O + entryDue k c = ((O + tallyAt (barCell k (peer 2 c)) () 1) + tallyAt (barCell k (peer 1 c)) () 1) + tallyAt (barCell k (peer 0 c)) () 1 from by
    unfold entryDue; rw [Fin.sum_univ_three]; exact add_three O _ _ _]
  rw [runs_bind]
  iapply (signal_run B κ k 0 c _ _) $$ [HO He0]
  · isplitr; · iexact Hinv
    isplitl [HO]; · iexact HO
    iexact He0
  iintro HO
  rw [runs_bind]
  iapply (signal_run B κ k 1 c _ _) $$ [HO He1]
  · isplitr; · iexact Hinv
    isplitl [HO]; · iexact HO
    iexact He1
  iintro HO
  rw [runs_bind]
  iapply (signal_run B κ k 2 c _ _) $$ [HO He2]
  · isplitr; · iexact Hinv
    isplitl [HO]; · iexact HO
    iexact He2
  unfold debt
  iintro ⟨%W, HO⟩
  rw [runs_bind]
  unfold semWaitWord
  iapply (Rounds.wp_wait_rest_token 𝒱₀ ER (sched B) (c : Thread nD τ) none (κ := κ (barCell k c)) (sm := semOf (.inl k)) (k' := 3)
    (wpE_semWait_eq 𝒱₀ (c : Thread nD τ) none Set.univ) (Set.mem_univ _) () (O := O) (W := W) (R := 0) (m := 0) (T := ∅)
    ((Nat.zero_add _).trans (expect_bar B c k).symm)) $$ [Hc HO Hat]
  · isplitr; · iapply (invs_get B κ c _) $$ Hinv
    isplitl [Hc]; · iexact Hc
    isplitl [HO]; · iexact HO
    isplitr; · iapply (hO.mayWait c _) $$ Hlev
    iexact Hat
  rw [rest_bar]
  iintro ⟨HO, Hat, -, Hpay⟩
  rw [wp_ret]
  imod (Rounds.cell_close ER (sched B) (g := barCell k c) (Set.mem_univ (κ (barCell k c))) id (R := 0 + 1) (duties_later B _)) $$ [Hat] with Hv
  · isplitr; · iapply (invs_get B κ c _) $$ Hinv
    iexact Hat
  imodintro
  rw [runs_bind]
  iapply (loadAll_run c out _ _ fullShare X _) $$ Hout
  iintro Hout
  rw [runs_bind]
  iapply (storeOut_run c out X (k0_pay1 (F := F)) _) $$ Hout
  iintro Hout
  iapply (runs_pure c _ Q)
  iapply HQ
  isplitl [HO]; · iexists _; iexact HO
  isplitl [Hv]; · iexact Hv
  isplitl [Hpay]; · iexact Hpay
  iexact Hout

end Ops

end Cert.KernelIdeal.Tp

end
-- ==== Proof.Ideal.Chunk.lean ====
/- One chunk of a layer, with the protocol's resources before and after it. -/
module

public import proofs.«01_k».proof.Proof.Ideal.Steps

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A conjunction over three indices, written out. -/
theorem bigSep_three (Φ : Fin 3 → sProp 𝕄) : bigSep Finset.univ Φ = iprop(Φ 0 ∗ Φ 1 ∗ Φ 2) :=
  bigSep_univ_eq_bigSepL [0, 1, 2] (by decide) (by decide) Φ

section State

variable (k : Fin 3) (j : Fin 8) (s : Fin 3) (c : Dev nD)

/-- What a device keeps for an exchange of a chunk to come: its two cells' positions, the duties of the copy it is to start
    and the credit for the block it is to receive. -/
def right : sProp 𝕄 :=
  iprop((atPos ER (sendCell k j s c) 0 ∅ 0 ∗ reached ER (sendCell k j s c) 0) ∗ atPos ER (recvCell k j s c) 0 ∅ 0
    ∗ dutyTok ER (sendCell k j s c) 0 0 ∗ dutyTok ER (recvCell k j s (peer s c)) 0 0 ∗ cred (tallyAt (recvCell k j s c) () N))
/-- The landing slot of an exchange at device `d`, with the record that its receive cell takes its first round. -/
def landing (d : Dev nD) : sProp 𝕄 := iprop(anyAt d (commSlot k j s) ∗ reached ER (recvCell k j s d) 0)
/-- What is left of an exchange: its two semaphores at zero and the device's own landing slot. -/
def worn : sProp 𝕄 := iprop(semVal (sendCell k j s c) 0 ∗ semVal (recvCell k j s c) 0 ∗ anyAt c (commSlot k j s))

/-- A chunk to come, without landing slots. -/
def mine : sProp 𝕄 := iprop(anyAt c (sendSlot k j) ∗ bigSep Finset.univ fun s : Fin 3 => right (F := F) k j s c)
/-- The landing slots a chunk sends to. -/
def theirs : sProp 𝕄 := bigSep Finset.univ fun s : Fin 3 => landing (F := F) k j s (peer s c)
/-- The landing slots a chunk receives in. -/
def ours : sProp 𝕄 := bigSep Finset.univ fun s : Fin 3 => landing (F := F) k j s c
/-- A chunk gone by. -/
def spent : sProp 𝕄 := iprop(anyAt c (sendSlot k j) ∗ bigSep Finset.univ fun s : Fin 3 => worn (F := F) k j s c)

end State

variable (B : Fin 3 → Fin 8 → Dev nD → Vec F S64x512 .bf16) (κ : GSem nD τ sig → ℕ)

/-- A send slot split among the three exchanges that read it. -/
theorem split_send (k : Fin 3) (j : Fin 8) (c : Dev nD) (X : Vec F S64x512 .bf16) :
    (owns (c : Thread nD τ) (sendSlot k j) fullShare X : sProp 𝕄)
      ⊣⊢ iprop(owns (c : Thread nD τ) (sendSlot k j) (shr 0) X ∗ owns (c : Thread nD τ) (sendSlot k j) (shr 1) X ∗ owns (c : Thread nD τ) (sendSlot k j) (shr 2) X) :=
  (owns_halves (c : Thread nD τ) (sendSlot k j) fullShare X).trans (sep_congr_right (owns_halves (c : Thread nD τ) (sendSlot k j) fullShare.right X))

/-- One chunk's run. It takes the chunk's send slot, its exchanges' rights, the peers' landing slots and what it owes for its
    three copies, and leaves the slots, the semaphores at zero, and the result one step further. -/
theorem chunk_run {e : EltTy} (prod : Vec F S64x2048 e → Vec F S2048x512 .bf16 → FVec F S64x512 .f32) (k : Fin 3) (j : Fin 8) (c : Dev nD)
    (x : Memref sig .tc .vmem S64x2048 e) (win : Memref sig .tc .vmem S2048x512 .bf16) (wout : Memref sig .tc .vmem S512x2048 .bf16)
    (out : Memref sig .tc .vmem S64x2048 .f32) (vx : Vec F S64x2048 e) (vw : Vec F S2048x512 .bf16) (vo : Vec F S512x2048 .bf16) (r : Vec F S64x2048 .f32)
    (O : CellTallies nD τ sig Unit) (hO : Above (54 * k.val + 4 + 3 * j.val) O) (hB : B k j c = sent (prod vx vw)) (Q : PUnit → sProp 𝕄) :
    iprop(invs B κ ∗ levAts L lv ∗ mine k j c ∗ theirs k j c ∗ debt c (O + copyDue k j c)
        ∗ owns (c : Thread nD τ) x fullShare vx ∗ owns (c : Thread nD τ) win fullShare vw ∗ owns (c : Thread nD τ) wout fullShare vo
        ∗ owns (c : Thread nD τ) out fullShare r)
      ⊢ iprop((spent k j c ∗ debt c O
            ∗ owns (c : Thread nD τ) x fullShare vx ∗ owns (c : Thread nD τ) win fullShare vw ∗ owns (c : Thread nD τ) wout fullShare vo
            ∗ owns (c : Thread nD τ) out fullShare (stepOut (prod vx vw) (B k j (peer (Fin.rev 0) c)) (B k j (peer (Fin.rev 1) c)) (B k j (peer (Fin.rev 2) c)) r vo) -∗ Q ⟨⟩)
        -∗ runs c (chunk prod (pt j) c x win wout out (sendM k) (sendM_whole k) (commM k) (commM_whole k) (sendS k) (recvS k)) Q) := by
  have hr (s : Fin 3) : Above (lv (recvCell k j s c) ()) O := fun g u hg => ⟨(hO g u hg).1, by rw [lv_recv]; have := (hO g u hg).2; have := s.isLt; omega⟩
  have hz : Above 0 O := fun g u hg => ⟨(hO g u hg).1, by have := (hO g u hg).2; omega⟩
  unfold mine theirs spent chunk
  simp only [bigSep_three]
  unfold right landing worn
  iintro ⟨#Hinv, #Hlev, ⟨Hsnd, ⟨⟨Hs0, Hk0⟩, Hv0, Ht0, Hu0, Hc0⟩, ⟨⟨Hs1, Hk1⟩, Hv1, Ht1, Hu1, Hc1⟩, ⟨⟨Hs2, Hk2⟩, Hv2, Ht2, Hu2, Hc2⟩⟩,
    ⟨⟨Hl0, Hq0⟩, ⟨Hl1, Hq1⟩, ⟨Hl2, Hq2⟩⟩, HO, Hx, Hw, Hwo, Hr⟩ HQ
  rw [show O + copyDue k j c = ((O + tallyAt (recvCell k j 2 (peer 2 c)) () N) + tallyAt (recvCell k j 1 (peer 1 c)) () N) + tallyAt (recvCell k j 0 (peer 0 c)) () N from by
    unfold copyDue; rw [Fin.sum_univ_three]; exact add_three O _ _ _]
  rw [runs_bind]
  iapply (loadAll_run c x _ _ fullShare vx _) $$ Hx
  iintro Hx
  rw [runs_bind]
  iapply (loadAll_run c win _ _ fullShare vw _) $$ Hw
  iintro Hw
  rw [← Prog.bind_assoc, runs_bind]
  iapply (fill_run k j c (sent (prod vx vw)) _ _ _ _ _) $$ Hsnd
  rw [← hB]
  iintro Hsnd
  ihave Hsnd := (split_send k j c (B k j c)).1 $$ Hsnd
  icases Hsnd with ⟨Hd0, Hd1, Hd2⟩
  rw [runs_bind]
  iapply (ship_run B κ k j 0 c _ _) $$ [Hd0 Hl0 HO Ht0 Hk0 Hu0 Hq0]
  · isplitr; · iexact Hinv
    isplitl [Hd0]; · iexact Hd0
    isplitl [Hl0]; · iexact Hl0
    isplitl [HO]; · iexact HO
    isplitl [Ht0]; · iexact Ht0
    isplitl [Hk0]; · iexact Hk0
    isplitl [Hu0]; · iexact Hu0
    iexact Hq0
  iintro ⟨He0, HO⟩
  rw [runs_bind]
  iapply (ship_run B κ k j 1 c _ _) $$ [Hd1 Hl1 HO Ht1 Hk1 Hu1 Hq1]
  · isplitr; · iexact Hinv
    isplitl [Hd1]; · iexact Hd1
    isplitl [Hl1]; · iexact Hl1
    isplitl [HO]; · iexact HO
    isplitl [Ht1]; · iexact Ht1
    isplitl [Hk1]; · iexact Hk1
    isplitl [Hu1]; · iexact Hu1
    iexact Hq1
  iintro ⟨He1, HO⟩
  rw [runs_bind]
  iapply (ship_run B κ k j 2 c _ _) $$ [Hd2 Hl2 HO Ht2 Hk2 Hu2 Hq2]
  · isplitr; · iexact Hinv
    isplitl [Hd2]; · iexact Hd2
    isplitl [Hl2]; · iexact Hl2
    isplitl [HO]; · iexact HO
    isplitl [Ht2]; · iexact Ht2
    isplitl [Hk2]; · iexact Hk2
    isplitl [Hu2]; · iexact Hu2
    iexact Hq2
  iintro ⟨He2, HO⟩
  rw [runs_bind]
  iapply (gather_run B κ k j 0 c O (hr 0) _) $$ [Hc0 HO Hv0]
  · isplitr; · iexact Hinv
    isplitr; · iexact Hlev
    isplitl [Hc0]; · iexact Hc0
    isplitl [HO]; · iexact HO
    iexact Hv0
  iintro %v0 %hv0 ⟨HO, Hv0, Hl0⟩
  rw [runs_bind]
  iapply (gather_run B κ k j 1 c O (hr 1) _) $$ [Hc1 HO Hv1]
  · isplitr; · iexact Hinv
    isplitr; · iexact Hlev
    isplitl [Hc1]; · iexact Hc1
    isplitl [HO]; · iexact HO
    iexact Hv1
  iintro %v1 %hv1 ⟨HO, Hv1, Hl1⟩
  rw [runs_bind]
  iapply (gather_run B κ k j 2 c O (hr 2) _) $$ [Hc2 HO Hv2]
  · isplitr; · iexact Hinv
    isplitr; · iexact Hlev
    isplitl [Hc2]; · iexact Hc2
    isplitl [HO]; · iexact HO
    iexact Hv2
  iintro %v2 %hv2 ⟨HO, Hv2, Hl2⟩
  rw [hv0, hv1, hv2, runs_bind]
  iapply (loadAll_run c out _ _ fullShare r _) $$ Hr
  iintro Hr
  rw [runs_bind]
  iapply (loadAll_run c wout _ _ fullShare vo _) $$ Hwo
  iintro Hwo
  rw [runs_bind]
  iapply (loadAll_run c out _ _ fullShare r _) $$ Hr
  iintro Hr
  rw [runs_bind]
  iapply (storeOut_run c out r _ _) $$ Hr
  iintro Hr
  rw [runs_bind]
  iapply (drain_run B κ k j 0 c O _ hz) $$ [He0 HO Hs0]
  · isplitr; · iexact Hinv
    isplitr; · iexact Hlev
    isplitl [He0]; · iexact He0
    isplitl [HO]; · iexact HO
    iexact Hs0
  iintro ⟨HO, Hs0, Hd0⟩
  rw [runs_bind]
  iapply (drain_run B κ k j 1 c O _ hz) $$ [He1 HO Hs1]
  · isplitr; · iexact Hinv
    isplitr; · iexact Hlev
    isplitl [He1]; · iexact He1
    isplitl [HO]; · iexact HO
    iexact Hs1
  iintro ⟨HO, Hs1, Hd1⟩
  rw [runs_bind]
  iapply (drain_run B κ k j 2 c O _ hz) $$ [He2 HO Hs2]
  · isplitr; · iexact Hinv
    isplitr; · iexact Hlev
    isplitl [He2]; · iexact He2
    isplitl [HO]; · iexact HO
    iexact Hs2
  iintro ⟨HO, Hs2, Hd2⟩
  iapply (runs_pure c _ Q)
  iapply HQ
  isplitl [Hd0 Hd1 Hd2 Hs0 Hs1 Hs2 Hv0 Hv1 Hv2 Hl0 Hl1 Hl2]
  · isplitl [Hd0 Hd1 Hd2]
    · unfold anyAt
      iexists (B k j c)
      iapply (split_send k j c (B k j c)).2
      isplitl [Hd0]; · iexact Hd0
      isplitl [Hd1]; · iexact Hd1
      iexact Hd2
    isplitl [Hs0 Hv0 Hl0]
    · isplitl [Hs0]; · iexact Hs0
      isplitl [Hv0]; · iexact Hv0
      iexact Hl0
    isplitl [Hs1 Hv1 Hl1]
    · isplitl [Hs1]; · iexact Hs1
      isplitl [Hv1]; · iexact Hv1
      iexact Hl1
    isplitl [Hs2]; · iexact Hs2
    isplitl [Hv2]; · iexact Hv2
    iexact Hl2
  isplitl [HO]; · iexact HO
  isplitl [Hx]; · iexact Hx
  isplitl [Hw]; · iexact Hw
  isplitl [Hwo]; · iexact Hwo
  iexact Hr

end Cert.KernelIdeal.Tp

end
-- ==== Proof.Ideal.Layer.lean ====
/- A layer's state between chunks, and its function at one chunk as a step of that state. -/
module

public import proofs.«01_k».proof.Proof.Ideal.Chunk

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- One chunk apart from the others. -/
theorem bigSep_around (j : Fin 8) (Φ : Fin 8 → sProp 𝕄) : bigSep Finset.univ (fun i => Φ i) = iprop(Φ j ∗ bigSep (Finset.univ.erase j) fun i => Φ i) :=
  bigSep_univ_split j

section State

variable (k : Fin 3) (c : Dev nD)

/-- What a device keeps for a layer's barrier: its position there, the credit for three signals, and the duties of its own. -/
def gate : sProp 𝕄 :=
  iprop(atPos ER (barCell k c) 0 ∅ 0 ∗ cred (tallyAt (barCell k c) () 3)
    ∗ bigSep Finset.univ fun s : Fin 3 => iprop(dutyTok ER (barCell k (peer s c)) 0 s.rev ∗ reached ER (barCell k (peer s c)) 0))

/-- A layer not yet entered: every landing slot is the device's own. -/
def before : sProp 𝕄 := iprop(gate (F := F) k c ∗ bigSep Finset.univ fun j : Fin 8 => iprop(mine (F := F) k j c ∗ ours (F := F) k j c))

/-- Chunk `j` of a layer that has been brought up to chunk `t`. -/
def chunkAt (t : ℕ) (j : Fin 8) : sProp 𝕄 := if j.val < t then spent (F := F) k j c else iprop(mine (F := F) k j c ∗ theirs (F := F) k j c)

/-- A layer entered and brought up to chunk `t`. -/
def during (t : ℕ) : sProp 𝕄 := iprop(semVal (barCell k c) 0 ∗ bigSep Finset.univ fun j : Fin 8 => chunkAt (F := F) k c t j)

/-- A layer before chunk `t`. -/
def stateAt (t : ℕ) : sProp 𝕄 := if t = 0 then before (F := F) k c else during (F := F) k c t

/-- What a layer leaves. -/
def after : sProp 𝕄 := iprop(semVal (barCell k c) 0 ∗ bigSep Finset.univ fun j : Fin 8 => spent (F := F) k j c)

/-- After its eight chunks a layer has only its used slots and its barrier at zero. -/
theorem during_end : during (F := F) k c 8 = after k c := by
  unfold during after chunkAt
  rw [bigSep_congr fun j _ => if_pos j.isLt]

/-- The landing slots a device hands out when it signals, by chunk. -/
theorem entryPay_own (s : Fin 3) : (bigSep Finset.univ fun j : Fin 8 => landing (F := F) k j s.rev c) = entryPay k s.rev (peer s c) := by
  unfold landing entryPay; rw [peer_rev_peer]

/-- The whole of a layer's landing slots, by exchange. -/
theorem ours_by : (bigSep Finset.univ fun j : Fin 8 => ours (F := F) k j c)
    ⊢ iprop(entryPay k 2 (peer 0 c) ∗ entryPay k 1 (peer 1 c) ∗ entryPay k 0 (peer 2 c)) := by
  unfold ours
  rw [BI.bigSep_univ_comm, bigSep_three,
    show (bigSep Finset.univ fun j : Fin 8 => landing (F := F) k j 0 c) = entryPay k 0 (peer 2 c) from entryPay_own k c 2,
    show (bigSep Finset.univ fun j : Fin 8 => landing (F := F) k j 1 c) = entryPay k 1 (peer 1 c) from entryPay_own k c 1,
    show (bigSep Finset.univ fun j : Fin 8 => landing (F := F) k j 2 c) = entryPay k 2 (peer 0 c) from entryPay_own k c 0]
  iintro ⟨H1, H2, H3⟩
  isplitl [H3]; · iexact H3
  isplitl [H2]; · iexact H2
  iexact H1
/-- The peers' landing slots, sorted by peer instead of by chunk. -/
theorem theirs_by : (bigSep Finset.univ fun j : Fin 8 => theirs (F := F) k j c)
    = iprop(entryPay k 0 c ∗ entryPay k 1 c ∗ entryPay k 2 c) := by
  unfold theirs
  rw [BI.bigSep_univ_comm, bigSep_three]
  rfl

end State

variable (B : Fin 3 → Fin 8 → Dev nD → Vec F S64x512 .bf16) (κ : GSem nD τ sig → ℕ)

/-- The entry condition holds at the first chunk alone. -/
theorem cond_pt : ∀ j : Fin 8, k0_cond1 (pt j) = 1#1 ↔ j = 0 := by decide +kernel

/-- Entering a layer. -/
theorem enter_step (k : Fin 3) (c : Dev nD) (out : Memref sig .tc .vmem S64x2048 .f32) (X : Vec F S64x2048 .f32)
    (O : CellTallies nD τ sig Unit) (hO : Above (54 * k.val + 1) O) (Q : PUnit → sProp 𝕄) :
    iprop(invs B κ ∗ levAts L lv ∗ before k c ∗ debt c (O + entryDue k c) ∗ owns (c : Thread nD τ) out fullShare X)
      ⊢ iprop((during k c 0 ∗ debt c O ∗ owns (c : Thread nD τ) out fullShare (k0_pay1 (F := F)) -∗ Q ⟨⟩)
        -∗ runs c (enter c (barS k) out) Q) := by
  unfold before gate
  rw [bigSep_three, bigSep_sep']
  iintro ⟨#Hinv, #Hlev, ⟨⟨Hat, Hc, ⟨Ht0, Hr0⟩, ⟨Ht1, Hr1⟩, ⟨Ht2, Hr2⟩⟩, Hm, Hp⟩, HO, Hout⟩ HQ
  ihave Hp := (ours_by k c) $$ Hp
  icases Hp with ⟨Hp0, Hp1, Hp2⟩
  iapply (enter_run B κ k c O out X Q (by rw [lv_bar]; exact hO)) $$ [Hat Hc Ht0 Hr0 Ht1 Hr1 Ht2 Hr2 Hp0 Hp1 Hp2 HO Hout]
  · unfold entryTok
    isplitr; · iexact Hinv
    isplitr; · iexact Hlev
    isplitl [HO]; · iexact HO
    isplitl [Ht0 Hr0 Hp0]
    · isplitl [Ht0]; · iexact Ht0
      isplitl [Hp0]; · iexact Hp0
      iexact Hr0
    isplitl [Ht1 Hr1 Hp1]
    · isplitl [Ht1]; · iexact Ht1
      isplitl [Hp1]; · iexact Hp1
      iexact Hr1
    isplitl [Ht2 Hr2 Hp2]
    · isplitl [Ht2]; · iexact Ht2
      isplitl [Hp2]; · iexact Hp2
      iexact Hr2
    isplitl [Hc]; · iexact Hc
    isplitl [Hat]; · iexact Hat
    iexact Hout
  iintro ⟨HO, Hv, Hp, Hout⟩
  iapply HQ
  isplitl [Hv Hp Hm]
  · unfold during chunkAt
    rw [bigSep_congr fun (j : Fin 8) _ => if_neg (Nat.not_lt_zero j.val), bigSep_sep', theirs_by]
    isplitl [Hv]; · iexact Hv
    isplitl [Hm]; · iexact Hm
    iexact Hp
  isplitl [HO]; · iexact HO
  iexact Hout

/-- A chunk's work as a step of the layer's state. -/
theorem chunk_step {e : EltTy} (prod : Vec F S64x2048 e → Vec F S2048x512 .bf16 → FVec F S64x512 .f32) (k : Fin 3) (j : Fin 8) (c : Dev nD)
    (x : Memref sig .tc .vmem S64x2048 e) (win : Memref sig .tc .vmem S2048x512 .bf16) (wout : Memref sig .tc .vmem S512x2048 .bf16)
    (out : Memref sig .tc .vmem S64x2048 .f32) (vx : Vec F S64x2048 e) (vw : Vec F S2048x512 .bf16) (vo : Vec F S512x2048 .bf16) (r : Vec F S64x2048 .f32)
    (O : CellTallies nD τ sig Unit) (hO : Above (54 * k.val + 4 + 3 * j.val) O) (hB : B k j c = sent (prod vx vw)) (Q : PUnit → sProp 𝕄) :
    iprop(invs B κ ∗ levAts L lv ∗ during k c j.val ∗ debt c (O + copyDue k j c)
        ∗ owns (c : Thread nD τ) x fullShare vx ∗ owns (c : Thread nD τ) win fullShare vw ∗ owns (c : Thread nD τ) wout fullShare vo
        ∗ owns (c : Thread nD τ) out fullShare r)
      ⊢ iprop((during k c (j.val + 1) ∗ debt c O
            ∗ owns (c : Thread nD τ) x fullShare vx ∗ owns (c : Thread nD τ) win fullShare vw ∗ owns (c : Thread nD τ) wout fullShare vo
            ∗ owns (c : Thread nD τ) out fullShare (stepOut (prod vx vw) (B k j (peer (Fin.rev 0) c)) (B k j (peer (Fin.rev 1) c)) (B k j (peer (Fin.rev 2) c)) r vo) -∗ Q ⟨⟩)
        -∗ runs c (chunk prod (pt j) c x win wout out (sendM k) (sendM_whole k) (commM k) (commM_whole k) (sendS k) (recvS k)) Q) := by
  have hrest : (bigSep (Finset.univ.erase j) fun i : Fin 8 => chunkAt (F := F) k c j.val i) = bigSep (Finset.univ.erase j) fun i => chunkAt k c (j.val + 1) i := by
    refine bigSep_congr fun i hi => ?_
    have hne : i.val ≠ j.val := fun h => (Finset.mem_erase.mp hi).1 (Fin.ext h)
    unfold chunkAt
    by_cases h : i.val < j.val
    · rw [if_pos h, if_pos (by omega)]
    · rw [if_neg h, if_neg (by omega)]
  have hnow : chunkAt (F := F) k c j.val j = iprop(mine k j c ∗ theirs k j c) := if_neg (Nat.lt_irrefl _)
  have hnext : chunkAt (F := F) k c (j.val + 1) j = spent k j c := if_pos (Nat.lt_succ_self _)
  unfold during
  rw [bigSep_around j (chunkAt (F := F) k c j.val), bigSep_around j (chunkAt (F := F) k c (j.val + 1)), hrest, hnow, hnext]
  iintro ⟨#Hinv, #Hlev, ⟨Hv, ⟨Hm, Ht⟩, Hrest⟩, HO, Hx, Hw, Hwo, Hr⟩ HQ
  iapply (chunk_run B κ prod k j c x win wout out vx vw vo r O hO hB Q) $$ [Hm Ht HO Hx Hw Hwo Hr]
  · isplitr; · iexact Hinv
    isplitr; · iexact Hlev
    isplitl [Hm]; · iexact Hm
    isplitl [Ht]; · iexact Ht
    isplitl [HO]; · iexact HO
    isplitl [Hx]; · iexact Hx
    isplitl [Hw]; · iexact Hw
    isplitl [Hwo]; · iexact Hwo
    iexact Hr
  iintro ⟨Hs, H⟩
  iapply HQ
  isplitl [Hv Hs Hrest]
  · isplitl [Hv]; · iexact Hv
    isplitl [Hs]; · iexact Hs
    iexact Hrest
  iexact H

/-- A layer's function at chunk `j` takes the layer's state before the chunk to the state after it. -/
theorem body_step {e : EltTy} (prod : Vec F S64x2048 e → Vec F S2048x512 .bf16 → FVec F S64x512 .f32) (k : Fin 3) (j : Fin 8) (c : Dev nD)
    (x : Memref sig .tc .vmem S64x2048 e) (win : Memref sig .tc .vmem S2048x512 .bf16) (wout : Memref sig .tc .vmem S512x2048 .bf16)
    (out : Memref sig .tc .vmem S64x2048 .f32) (vx : Vec F S64x2048 e) (vw : Vec F S2048x512 .bf16) (vo : Vec F S512x2048 .bf16) (r : Vec F S64x2048 .f32)
    (hB : B k j c = sent (prod vx vw)) (Q : PUnit → sProp 𝕄) :
    iprop(invs B κ ∗ levAts L lv ∗ stateAt k c j.val ∗ debt c (laterDue k c + layerDue k j.val c)
        ∗ owns (c : Thread nD τ) x fullShare vx ∗ owns (c : Thread nD τ) win fullShare vw ∗ owns (c : Thread nD τ) wout fullShare vo
        ∗ owns (c : Thread nD τ) out fullShare r)
      ⊢ iprop((stateAt k c (j.val + 1) ∗ debt c (laterDue k c + layerDue k (j.val + 1) c)
            ∗ owns (c : Thread nD τ) x fullShare vx ∗ owns (c : Thread nD τ) win fullShare vw ∗ owns (c : Thread nD τ) wout fullShare vo
            ∗ owns (c : Thread nD τ) out fullShare (stepOut (prod vx vw) (B k j (peer (Fin.rev 0) c)) (B k j (peer (Fin.rev 1) c)) (B k j (peer (Fin.rev 2) c))
                (if j.val = 0 then k0_pay1 (F := F) else r) vo) -∗ Q ⟨⟩)
        -∗ runs c (body prod (barS k) (pt j) x win wout out (sendM k) (sendM_whole k) (commM k) (commM_whole k) (sendS k) (recvS k)) Q) := by
  have hj := j.isLt
  have habove : Above (54 * k.val + 4 + 3 * j.val) (laterDue k c + chunksDue k (j.val + 1) c) :=
    (laterDue_above (by omega)).add (chunksDue_above (by omega))
  have hnext : layerDue k (j.val + 1) c = chunksDue k (j.val + 1) c := by
    unfold layerDue; rw [if_neg (Nat.succ_ne_zero _), add_zero]
  have hs1 : stateAt (F := F) k c (j.val + 1) = during k c (j.val + 1) := if_neg (Nat.succ_ne_zero _)
  rw [hnext, hs1]
  unfold body
  rw [runs_bind]
  show _ ⊢ iprop(_ -∗ wp frame (wpE (defs₀ (F := F)) 𝒱₀ (c : Thread nD τ) none) Set.univ (.op .deviceId .ret) _)
  rw [wp_deviceId, wp_ret]
  by_cases h : j = 0
  · subst h
    rw [dif_pos ((cond_pt 0).2 rfl)]
    have hd : laterDue k c + layerDue k (0 : Fin 8).val c = ((laterDue k c + chunksDue k ((0 : Fin 8).val + 1) c) + copyDue k 0 c) + entryDue k c := by
      unfold layerDue; rw [if_pos (show (0 : Fin 8).val = 0 from rfl), chunksDue_step k 0 c, ← add_assoc, ← add_assoc]
    rw [hd, show stateAt (F := F) k c (0 : Fin 8).val = before k c from if_pos rfl, if_pos (show (0 : Fin 8).val = 0 from rfl)]
    iintro ⟨#Hinv, #Hlev, Hs, HO, Hx, Hw, Hwo, Hr⟩ HQ
    imodintro
    rw [runs_bind]
    iapply (enter_step B κ k c out r ((laterDue k c + chunksDue k ((0 : Fin 8).val + 1) c) + copyDue k 0 c)
      (((laterDue_above (by omega)).add (chunksDue_above (by omega))).add (copyDue_above (by omega))) _) $$ [Hs HO Hr]
    · isplitr; · iexact Hinv
      isplitr; · iexact Hlev
      isplitl [Hs]; · iexact Hs
      isplitl [HO]; · iexact HO
      iexact Hr
    iintro ⟨Hs, HO, Hr⟩
    iapply (chunk_step B κ prod k 0 c x win wout out vx vw vo _ _ habove hB Q) $$ [Hs HO Hx Hw Hwo Hr]
    · isplitr; · iexact Hinv
      isplitr; · iexact Hlev
      isplitl [Hs]; · iexact Hs
      isplitl [HO]; · iexact HO
      isplitl [Hx]; · iexact Hx
      isplitl [Hw]; · iexact Hw
      isplitl [Hwo]; · iexact Hwo
      iexact Hr
    iexact HQ
  · have h0 : j.val ≠ 0 := fun e => h (Fin.ext e)
    rw [dif_neg (fun e => h ((cond_pt j).1 e))]
    have hd : laterDue k c + layerDue k j.val c = (laterDue k c + chunksDue k (j.val + 1) c) + copyDue k j c := by
      unfold layerDue; rw [if_neg h0, add_zero, chunksDue_step k j c, ← add_assoc]
    rw [hd, show stateAt (F := F) k c j.val = during k c j.val from if_neg h0, if_neg h0]
    iintro ⟨#Hinv, #Hlev, Hs, HO, Hx, Hw, Hwo, Hr⟩ HQ
    imodintro
    iapply (chunk_step B κ prod k j c x win wout out vx vw vo _ _ habove hB Q) $$ [Hs HO Hx Hw Hwo Hr]
    · isplitr; · iexact Hinv
      isplitr; · iexact Hlev
      isplitl [Hs]; · iexact Hs
      isplitl [HO]; · iexact HO
      isplitl [Hx]; · iexact Hx
      isplitl [Hw]; · iexact Hw
      isplitl [Hwo]; · iexact Hwo
      iexact Hr
    iexact HQ

end Cert.KernelIdeal.Tp

end
-- ==== Proof.Ideal.Vals.lean ====
/- The contents, as functions of the launch memory: each layer's products, the blocks it sends, and its result chunk by chunk. -/
module

public import proofs.«01_k».proof.Proof.Ideal.Layer

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Blocks of the weights -/

/-- Column `i 1` of chunk `j` of a first weight. -/
def colIdx (j : Fin 8) (i : S2048x512.Idx) : S2048x4096.Idx :=
  fun a => match a with
    | 0 => ⟨(i 0).val, (i 0).isLt⟩
    | 1 => ⟨512 * j.val + (i 1).val, by have h : (i 1).val < 512 := (i 1).isLt; have := j.isLt; show _ < 4096; omega⟩
/-- Row `i 0` of chunk `j` of a second weight. -/
def rowIdx (j : Fin 8) (i : S512x2048.Idx) : S4096x2048.Idx :=
  fun a => match a with
    | 0 => ⟨512 * j.val + (i 0).val, by have h : (i 0).val < 512 := (i 0).isLt; have := j.isLt; show _ < 4096; omega⟩
    | 1 => ⟨(i 1).val, (i 1).isLt⟩

/-- Chunk `j` of a first weight: 512 of its columns. -/
def colBlock (j : Fin 8) (A : Vec F S2048x4096 .bf16) : Vec F S2048x512 .bf16 := fun i => A (colIdx j i)
/-- Chunk `j` of a second weight: 512 of its rows. -/
def rowBlock (j : Fin 8) (A : Vec F S4096x2048 .bf16) : Vec F S512x2048 .bf16 := fun i => A (rowIdx j i)

/-! ## One layer -/

/-- A layer's result after `t` chunks on device `c`, from every device's products `p` and second-weight blocks `w`. -/
def acc (p : Fin 8 → Dev nD → FVec F S64x512 .f32) (w : Fin 8 → Dev nD → Vec F S512x2048 .bf16) (c : Dev nD) : ℕ → Vec F S64x2048 .f32
  | 0 => k0_pay1
  | t + 1 => if h : t < 8 then
      stepOut (p ⟨t, h⟩ c) (sent (p ⟨t, h⟩ (peer (Fin.rev 0) c))) (sent (p ⟨t, h⟩ (peer (Fin.rev 1) c))) (sent (p ⟨t, h⟩ (peer (Fin.rev 2) c)))
        (acc p w c t) (w ⟨t, h⟩ c)
    else acc p w c t

/-- One chunk more. -/
theorem acc_step (p : Fin 8 → Dev nD → FVec F S64x512 .f32) (w : Fin 8 → Dev nD → Vec F S512x2048 .bf16) (c : Dev nD) (j : Fin 8) :
    acc p w c (j.val + 1) = stepOut (p j c) (sent (p j (peer (Fin.rev 0) c))) (sent (p j (peer (Fin.rev 1) c))) (sent (p j (peer (Fin.rev 2) c)))
      (acc p w c j.val) (w j c) := by
  show (if h : j.val < 8 then _ else _) = _
  rw [dif_pos j.isLt]

/-! ## The three layers -/

section Layers

variable (m : (ℓ : Loc nD τ sig) → Buf (Elt F) ℓ)

/-- The first weight's block, by layer and chunk. -/
def winOf (k : Fin 3) (j : Fin 8) (c : Dev nD) : Vec F S2048x512 .bf16 :=
  match k with
  | 0 => colBlock j (m ((c : Thread nD τ).loc main_arg1))
  | 1 => colBlock j (m ((c : Thread nD τ).loc main_arg2))
  | 2 => colBlock j (m ((c : Thread nD τ).loc main_arg3))
/-- The second weight's block, by layer and chunk. -/
def woutOf (k : Fin 3) (j : Fin 8) (c : Dev nD) : Vec F S512x2048 .bf16 :=
  match k with
  | 0 => rowBlock j (m ((c : Thread nD τ).loc main_arg4))
  | 1 => rowBlock j (m ((c : Thread nD τ).loc main_arg5))
  | 2 => rowBlock j (m ((c : Thread nD τ).loc main_arg6))

/-- The first layer's product for a chunk. -/
def part0 (j : Fin 8) (c : Dev nD) : FVec F S64x512 .f32 := k0_pay2 (m ((c : Thread nD τ).loc main_arg0)) (winOf m 0 j c)
/-- The first layer's result. -/
def out0 (c : Dev nD) : Vec F S64x2048 .f32 := acc (part0 m) (woutOf m 0) c 8
/-- The second layer's product for a chunk. -/
def part1 (j : Fin 8) (c : Dev nD) : FVec F S64x512 .f32 := k1_pay2 (out0 m c) (winOf m 1 j c)
/-- The second layer's result. -/
def out1 (c : Dev nD) : Vec F S64x2048 .f32 := acc (part1 m) (woutOf m 1) c 8
/-- The third layer's product for a chunk. -/
def part2 (j : Fin 8) (c : Dev nD) : FVec F S64x512 .f32 := k2_pay2 (out1 m c) (winOf m 2 j c)
/-- The third layer's result. -/
def out2 (c : Dev nD) : Vec F S64x2048 .f32 := acc (part2 m) (woutOf m 2) c 8

/-- A layer's products. -/
def part (k : Fin 3) : Fin 8 → Dev nD → FVec F S64x512 .f32 :=
  match k with
  | 0 => part0 m
  | 1 => part1 m
  | 2 => part2 m

/-- A layer's result after `t` chunks. -/
def accOf (k : Fin 3) (c : Dev nD) (t : ℕ) : Vec F S64x2048 .f32 := acc (part m k) (woutOf m k) c t

/-- The blocks that travel. -/
def Bk (k : Fin 3) (j : Fin 8) (c : Dev nD) : Vec F S64x512 .bf16 := sent (part m k j c)

/-- The unscoped buffers at launch. -/
def W0 (c : Dev nD) : Valuation τ sig (Elt F) := fun b => m (c, b)
/-- The unscoped buffers after the first layer, -/
def W1 (c : Dev nD) : Valuation τ sig (Elt F) := Function.update (W0 m c) main_v1 (out0 m c)
/-- after the second, -/
def W2 (c : Dev nD) : Valuation τ sig (Elt F) := Function.update (W1 m c) main_v2 (out1 m c)
/-- and after the third. -/
def W3 (c : Dev nD) : Valuation τ sig (Elt F) := Function.update (W2 m c) main_v3 (out2 m c)

end Layers

/-! ## What a window reads -/

/-- The block indices, by window: constant for a layer's input and result, the chunk for the weights. -/
theorem index0 : ∀ t : Fin cfg0.N, (cfg0.win 1).index t 1 = t.val ∧ (cfg0.win 2).index t 0 = t.val := by decide +kernel
/-- The same in the second call, -/
theorem index1 : ∀ t : Fin cfg1.N, (cfg1.win 1).index t 1 = t.val ∧ (cfg1.win 2).index t 0 = t.val := by decide +kernel
/-- and in the third. -/
theorem index2 : ∀ t : Fin cfg2.N, (cfg2.win 1).index t 1 = t.val ∧ (cfg2.win 2).index t 0 = t.val := by decide +kernel

/-- The entry of a whole array under entry `i` of its one block. -/
theorem whole_idx (i q : S64x2048.Idx) (h0 : (q 0).val = 0 * 64 + 1 * (i 0).val) (h1 : (q 1).val = 0 * 2048 + 1 * (i 1).val) : q = i := by
  funext a; apply Fin.ext
  match a with
  | 0 => show (q 0).val = (i 0).val; omega
  | 1 => show (q 1).val = (i 1).val; omega

/-- The input's block reads the input, in the first call. -/
theorem x_read0 (t : Fin cfg0.N) (A : Vec F S64x2048 .bf16) : ((cfg0.win 0).blk t).view.read (Elt F) A = A :=
  funext fun i => congrArg A (whole_idx i _ rfl rfl)
/-- The same in the second call, -/
theorem x_read1 (t : Fin cfg1.N) (A : Vec F S64x2048 .f32) : ((cfg1.win 0).blk t).view.read (Elt F) A = A :=
  funext fun i => congrArg A (whole_idx i _ rfl rfl)
/-- and in the third. -/
theorem x_read2 (t : Fin cfg2.N) (A : Vec F S64x2048 .f32) : ((cfg2.win 0).blk t).view.read (Elt F) A = A :=
  funext fun i => congrArg A (whole_idx i _ rfl rfl)
/-- The result's block reads the result, in the first call, -/
theorem out_read0 (t : Fin cfg0.N) (A : Vec F S64x2048 .f32) : ((cfg0.win 3).blk t).view.read (Elt F) A = A :=
  funext fun i => congrArg A (whole_idx i _ rfl rfl)
/-- in the second, -/
theorem out_read1 (t : Fin cfg1.N) (A : Vec F S64x2048 .f32) : ((cfg1.win 3).blk t).view.read (Elt F) A = A :=
  funext fun i => congrArg A (whole_idx i _ rfl rfl)
/-- and in the third. -/
theorem out_read2 (t : Fin cfg2.N) (A : Vec F S64x2048 .f32) : ((cfg2.win 3).blk t).view.read (Elt F) A = A :=
  funext fun i => congrArg A (whole_idx i _ rfl rfl)

/-- The entry of a first weight under entry `i` of its block of index `n`. -/
theorem col_idx (j : Fin 8) (n : ℕ) (h : n = j.val) (i : S2048x512.Idx) (q : S2048x4096.Idx)
    (h0 : (q 0).val = 0 * 2048 + 1 * (i 0).val) (h1 : (q 1).val = n * 512 + 1 * (i 1).val) : q = colIdx j i := by
  funext a; apply Fin.ext
  match a with
  | 0 => show (q 0).val = (i 0).val; omega
  | 1 => show (q 1).val = 512 * j.val + (i 1).val; omega
/-- The entry of a second weight under entry `i` of its block of index `n`. -/
theorem row_idx (j : Fin 8) (n : ℕ) (h : n = j.val) (i : S512x2048.Idx) (q : S4096x2048.Idx)
    (h0 : (q 0).val = n * 512 + 1 * (i 0).val) (h1 : (q 1).val = 0 * 2048 + 1 * (i 1).val) : q = rowIdx j i := by
  funext a; apply Fin.ext
  match a with
  | 0 => show (q 0).val = 512 * j.val + (i 0).val; omega
  | 1 => show (q 1).val = (i 1).val; omega

/-- A first weight's window reads the chunk's columns, in the first call, -/
theorem win_read0 (t : Fin cfg0.N) (A : Vec F S2048x4096 .bf16) : ((cfg0.win 1).blk t).view.read (Elt F) A = colBlock (t.cast N_0) A :=
  funext fun i => congrArg A (col_idx _ _ (index0 t).1 i _ rfl rfl)
/-- in the second call, -/
theorem win_read1 (t : Fin cfg1.N) (A : Vec F S2048x4096 .bf16) : ((cfg1.win 1).blk t).view.read (Elt F) A = colBlock (t.cast N_0) A :=
  funext fun i => congrArg A (col_idx _ _ (index1 t).1 i _ rfl rfl)
/-- and in the third. -/
theorem win_read2 (t : Fin cfg2.N) (A : Vec F S2048x4096 .bf16) : ((cfg2.win 1).blk t).view.read (Elt F) A = colBlock (t.cast N_0) A :=
  funext fun i => congrArg A (col_idx _ _ (index2 t).1 i _ rfl rfl)
/-- A second weight's window reads the chunk's rows, in the first call, -/
theorem wout_read0 (t : Fin cfg0.N) (A : Vec F S4096x2048 .bf16) : ((cfg0.win 2).blk t).view.read (Elt F) A = rowBlock (t.cast N_0) A :=
  funext fun i => congrArg A (row_idx _ _ (index0 t).2 i _ rfl rfl)
/-- in the second, -/
theorem wout_read1 (t : Fin cfg1.N) (A : Vec F S4096x2048 .bf16) : ((cfg1.win 2).blk t).view.read (Elt F) A = rowBlock (t.cast N_0) A :=
  funext fun i => congrArg A (row_idx _ _ (index1 t).2 i _ rfl rfl)
/-- and in the third. -/
theorem wout_read2 (t : Fin cfg2.N) (A : Vec F S4096x2048 .bf16) : ((cfg2.win 2).blk t).view.read (Elt F) A = rowBlock (t.cast N_0) A :=
  funext fun i => congrArg A (row_idx _ _ (index2 t).2 i _ rfl rfl)

/-! ## Where a valuation did not change -/

/-- The first layer changes its result only, -/
theorem W1_of (m : (ℓ : Loc nD τ sig) → Buf (Elt F) ℓ) (c : Dev nD) (b : DevRef τ sig) (h : b ≠ main_v1) : W1 m c b = W0 m c b := Function.update_of_ne h _ _
/-- the second its own, -/
theorem W2_of (m : (ℓ : Loc nD τ sig) → Buf (Elt F) ℓ) (c : Dev nD) (b : DevRef τ sig) (h : b ≠ main_v2) : W2 m c b = W1 m c b := Function.update_of_ne h _ _
/-- and the third its own. -/
theorem W3_of (m : (ℓ : Loc nD τ sig) → Buf (Elt F) ℓ) (c : Dev nD) (b : DevRef τ sig) (h : b ≠ main_v3) : W3 m c b = W2 m c b := Function.update_of_ne h _ _
/-- The first layer's result after it, -/
theorem W1_out (m : (ℓ : Loc nD τ sig) → Buf (Elt F) ℓ) (c : Dev nD) : W1 m c main_v1 = out0 m c := Function.update_self _ _ _
/-- the second's, -/
theorem W2_out (m : (ℓ : Loc nD τ sig) → Buf (Elt F) ℓ) (c : Dev nD) : W2 m c main_v2 = out1 m c := Function.update_self _ _ _
/-- and the third's. -/
theorem W3_out (m : (ℓ : Loc nD τ sig) → Buf (Elt F) ℓ) (c : Dev nD) : W3 m c main_v3 = out2 m c := Function.update_self _ _ _

end Cert.KernelIdeal.Tp

end
-- ==== Proof.Ideal.Slots.lean ====
/- A layer's scratch buffers taken apart into the slots the chunks use, and put together again. -/
module

public import proofs.«01_k».proof.Proof.Ideal.Vals

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A slot and the block it is the recast of are the same piece of memory. -/
theorem anyAt_squeeze (c : Dev nD) {s s' : Shape} {e : EltTy} (m : Memref sig .tc .vmem s e) (h : s.Squeezes s') :
    (anyAt c m : sProp 𝕄) ⊢ anyAt c (m.squeeze s' h) := by
  unfold anyAt owns
  iintro ⟨%X, %f, -, H⟩
  iexists (m.squeeze s' h).view.read (Elt F) f
  iexists f
  isplitr; · ipureintro; rfl
  rw [show (m.squeeze s' h).view.set = m.view.set from View.set_reshape _ _]
  iexact H
/-- A slot without its axes of length one is that slot. -/
theorem anyAt_unsqueeze (c : Dev nD) {s s' : Shape} {e : EltTy} (m : Memref sig .tc .vmem s e) (h : s.Squeezes s') :
    (anyAt c (m.squeeze s' h) : sProp 𝕄) ⊢ anyAt c m := by
  unfold anyAt owns
  rw [show (m.squeeze s' h).view.set = m.view.set from View.set_reshape _ _]
  iintro ⟨%X, %f, -, H⟩
  iexists m.view.read (Elt F) f
  iexists f
  isplitr; · ipureintro; rfl
  iexact H

/-- Named contents are some contents. -/
theorem anyAt_of (c : Dev nD) {s : Shape} {e : EltTy} (m : Memref sig .tc .vmem s e) (X : s.Idx → Elt F e) :
    (owns (c : Thread nD τ) m fullShare X : sProp 𝕄) ⊢ iprop(∃ X, owns (c : Thread nD τ) m fullShare X) := by
  iintro H
  iexists X
  iexact H

section Family

variable {T : Type} [Fintype T] [DecidableEq T] (c : Dev nD) {s s' : Shape} {e : EltTy} (m : Memref sig .tc .vmem s e) (r : T → Rect s)
  (hr : ∀ t a, (r t).stride a = 1) (hd : ∀ t t', t ≠ t' → Disjoint (r t).set (r t').set)
  (hcov : (Finset.univ : Finset T).biUnion (fun t => (r t).set) = Finset.univ) (h : ∀ t, (r t).shape.Squeezes s')
include hd hcov

/-- A buffer is the slots that tile it, each at contents not named, -/
theorem anyAt_split : (anyAt c m : sProp 𝕄) ⊢ bigSep Finset.univ fun t => anyAt c ((m.slice (r t) (hr t)).squeeze s' (h t)) := by
  refine BIBase.Entails.trans (Q := bigSep Finset.univ fun t => anyAt c (m.slice (r t) (hr t))) ?_ (bigSep_mono fun t _ => anyAt_squeeze c _ (h t))
  unfold anyAt
  iintro ⟨%X, H⟩
  iapply (show (owns (c : Thread nD τ) m fullShare X : sProp 𝕄) ⊢ bigSep Finset.univ fun t => iprop(∃ X, owns (c : Thread nD τ) (m.slice (r t) (hr t)) fullShare X) from
    (owns_rects (c : Thread nD τ) m fullShare r hr hd hcov X).trans (bigSep_mono fun t _ => anyAt_of c _ _))
  iexact H

/-- and back. -/
theorem anyAt_join [∀ e, Nonempty (Elt F e)] :
    bigSep Finset.univ (fun t => anyAt c ((m.slice (r t) (hr t)).squeeze s' (h t))) ⊢ (anyAt c m : sProp 𝕄) := by
  refine (bigSep_mono fun t _ => (anyAt_unsqueeze c _ (h t)).trans (ownsSat_true (c : Thread nD τ) (m.slice (r t) (hr t)) fullShare).2).trans ?_
  refine (ownsSat_of_rects (c : Thread nD τ) m fullShare r hr hd hcov (fun _ _ => True)).trans ?_
  exact ownsSat_any _ _ _

end Family

/-! ## The two scratch buffers -/

/-- The send buffer's slots, and the landing buffer's. -/
def sendRect (j : Fin 8) : Rect S8x64x512 := Rect.unit (s := S8x64x512) (k0_off4 (pt j)) S1x64x512.size (k0_off4_inb (pt j))
/-- An exchange's part of the receive buffer. -/
def commRect (js : Fin 8 × Fin 3) : Rect S8x3x64x512 :=
  Rect.unit (s := S8x3x64x512) (slotOff js.2 (pt js.1)) S1x1x64x512.size (slotOff_inb js.2 (pt js.1))

/-- An entry is in chunk `j`'s slot when its first coordinate is `j`; -/
theorem mem_sendRect (j : Fin 8) (i : S8x64x512.Idx) : i ∈ (sendRect j).set ↔ (i 0).val = j.val := by
  unfold sendRect
  rw [Rect.mem_set_unit]
  have e : k0_off4 (pt j) = ![j.val, 0, 0] := k0_off4_eq (pt j)
  constructor
  · intro h
    have := h 0
    rw [e] at this
    have h1 : j.val ≤ (i 0).val := this.1
    have h2 : (i 0).val < j.val + 1 := this.2
    omega
  · intro h a
    rw [e]
    match a with
    | 0 => show j.val ≤ (i 0).val ∧ (i 0).val < j.val + 1; omega
    | 1 => exact ⟨Nat.zero_le _, by have := (i 1).isLt; show (i 1).val < 0 + 64; exact (Nat.zero_add 64).symm ▸ this⟩
    | 2 => exact ⟨Nat.zero_le _, by have := (i 2).isLt; show (i 2).val < 0 + 512; exact (Nat.zero_add 512).symm ▸ this⟩

/-- in exchange `s`'s landing slot of chunk `j` when its first two are `j` and `s`. -/
theorem mem_commRect (j : Fin 8) (s : Fin 3) (i : S8x3x64x512.Idx) : i ∈ (commRect (j, s)).set ↔ (i 0).val = j.val ∧ (i 1).val = s.val := by
  unfold commRect
  rw [Rect.mem_set_unit]
  have e : slotOff s (pt j) = ![j.val, s.val, 0, 0] := slotOff_eq s (pt j)
  dsimp only
  constructor
  · intro h
    have h0 := h 0
    have h1 := h 1
    rw [e] at h0 h1
    have a1 : j.val ≤ (i 0).val := h0.1
    have a2 : (i 0).val < j.val + 1 := h0.2
    have b1 : s.val ≤ (i 1).val := h1.1
    have b2 : (i 1).val < s.val + 1 := h1.2
    omega
  · intro h a
    rw [e]
    match a with
    | 0 => show j.val ≤ (i 0).val ∧ (i 0).val < j.val + 1; omega
    | 1 => show s.val ≤ (i 1).val ∧ (i 1).val < s.val + 1; omega
    | 2 => exact ⟨Nat.zero_le _, by have := (i 2).isLt; show (i 2).val < 0 + 64; exact (Nat.zero_add 64).symm ▸ this⟩
    | 3 => exact ⟨Nat.zero_le _, by have := (i 3).isLt; show (i 3).val < 0 + 512; exact (Nat.zero_add 512).symm ▸ this⟩

/-- Two chunks' parts of the send buffer do not meet, -/
theorem sendRect_disjoint (j j' : Fin 8) (h : j ≠ j') : Disjoint (sendRect j).set (sendRect j').set :=
  Finset.disjoint_left.mpr fun i hi hi' => h (Fin.ext (((mem_sendRect j i).mp hi).symm.trans ((mem_sendRect j' i).mp hi')))
/-- nor do two exchanges' parts of the receive buffer. -/
theorem commRect_disjoint (x y : Fin 8 × Fin 3) (h : x ≠ y) : Disjoint (commRect x).set (commRect y).set :=
  Finset.disjoint_left.mpr fun i hi hi' => by
    obtain ⟨j, s⟩ := x
    obtain ⟨j', s'⟩ := y
    have a := (mem_commRect j s i).mp hi
    have b := (mem_commRect j' s' i).mp hi'
    exact h (Prod.ext (Fin.ext (a.1.symm.trans b.1)) (Fin.ext (a.2.symm.trans b.2)))
/-- The eight chunks fill the send buffer, -/
theorem sendRect_cover : (Finset.univ : Finset (Fin 8)).biUnion (fun j => (sendRect j).set) = Finset.univ :=
  Finset.eq_univ_iff_forall.mpr fun i => Finset.mem_biUnion.mpr ⟨i 0, Finset.mem_univ _, (mem_sendRect (i 0) i).mpr rfl⟩
/-- and the exchanges fill the receive buffer. -/
theorem commRect_cover : (Finset.univ : Finset (Fin 8 × Fin 3)).biUnion (fun x => (commRect x).set) = Finset.univ :=
  Finset.eq_univ_iff_forall.mpr fun i => Finset.mem_biUnion.mpr ⟨(i 0, i 1), Finset.mem_univ _, (mem_commRect (i 0) (i 1) i).mpr ⟨rfl, rfl⟩⟩

section Scratch

variable (k : Fin 3) (c : Dev nD)

/-- The send buffer is its eight slots, -/
theorem send_split : (anyAt c (sendM k) : sProp 𝕄) ⊢ bigSep Finset.univ fun j => anyAt c (sendSlot k j) :=
  anyAt_split c (sendM k) sendRect (fun _ _ => rfl) sendRect_disjoint sendRect_cover (fun _ => squeezes_S1x64x512_S64x512)
/-- and the eight slots are the send buffer. -/
theorem send_join [∀ e, Nonempty (Elt F e)] : bigSep Finset.univ (fun j => anyAt c (sendSlot k j)) ⊢ (anyAt c (sendM k) : sProp 𝕄) :=
  anyAt_join c (sendM k) sendRect (fun _ _ => rfl) sendRect_disjoint sendRect_cover (fun _ => squeezes_S1x64x512_S64x512)
/-- The receive buffer is its slots, -/
theorem comm_split : (anyAt c (commM k) : sProp 𝕄) ⊢ bigSep Finset.univ fun j => bigSep Finset.univ fun s => anyAt c (commSlot k j s) := by
  rw [← bigSep_univ_prod (fun x : Fin 8 × Fin 3 => (anyAt c (commSlot k x.1 x.2) : sProp 𝕄))]
  exact anyAt_split c (commM k) commRect (fun _ _ => rfl) commRect_disjoint commRect_cover (fun _ => squeezes_S1x1x64x512_S64x512)
/-- and the slots are the receive buffer. -/
theorem comm_join [∀ e, Nonempty (Elt F e)] :
    bigSep Finset.univ (fun j => bigSep Finset.univ fun s => anyAt c (commSlot k j s)) ⊢ (anyAt c (commM k) : sProp 𝕄) := by
  rw [← bigSep_univ_prod (fun x : Fin 8 × Fin 3 => (anyAt c (commSlot k x.1 x.2) : sProp 𝕄))]
  exact anyAt_join c (commM k) commRect (fun _ _ => rfl) commRect_disjoint commRect_cover (fun _ => squeezes_S1x1x64x512_S64x512)

end Scratch

end Cert.KernelIdeal.Tp

end
-- ==== Proof.Ideal.Ghost.lean ====
/- What a device carries of the protocol into a layer, and what a layer is made of and leaves. -/
module

public import proofs.«01_k».proof.Proof.Ideal.Slots

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

section Layer

variable (k : Fin 3) (c : Dev nD)

/-- A layer's own semaphores, sends and receives. -/
abbrev osem (x : Bool × Fin 8 × Fin 3) : SemLoc sig := semOf (.inr (x.1, k, x.2.1, x.2.2))

/-- What a device holds of an exchange before its layer starts: the rights to put its two cells in use, the duties of the copy it
    is to start and the credit for the block it is to receive. -/
def dormant (x : Fin 8 × Fin 3) : sProp 𝕄 :=
  iprop(openTok ER (sendCell k x.1 x.2 c) ∗ openTok ER (recvCell k x.1 x.2 c) ∗ dutyTok ER (sendCell k x.1 x.2 c) 0 0
    ∗ dutyTok ER (recvCell k x.1 x.2 (peer x.2 c)) 0 0 ∗ cred (tallyAt (recvCell k x.1 x.2 c) () N))

/-- The same once the cells are in use. -/
def opened (x : Fin 8 × Fin 3) : sProp 𝕄 := iprop(right (F := F) k x.1 x.2 c ∗ reached ER (recvCell k x.1 x.2 c) 0)

end Layer

/-- What a device brings to a layer. -/
def ticket (B : Fin 3 → Fin 8 → Dev nD → Vec F S64x512 .bf16) (k : Fin 3) (c : Dev nD) : sProp 𝕄 :=
  iprop((∃ κ, invs B κ) ∗ gate (F := F) k c ∗ bigSep Finset.univ fun x : Fin 8 × Fin 3 => dormant (F := F) k c x)

/-- What it has once the layer's semaphores are its own. -/
def admitted (B : Fin 3 → Fin 8 → Dev nD → Vec F S64x512 .bf16) (k : Fin 3) (c : Dev nD) : sProp 𝕄 :=
  iprop((∃ κ, invs B κ) ∗ levAts L lv ∗ gate (F := F) k c ∗ bigSep Finset.univ fun x : Fin 8 × Fin 3 => opened (F := F) k c x)

variable (B : Fin 3 → Fin 8 → Dev nD → Vec F S64x512 .bf16) (k : Fin 3) (c : Dev nD)

/-- A layer's own semaphores at zero, by exchange. -/
theorem own_split : (Pipeline.ownSems0 (osem k) c : sProp 𝕄)
    = iprop((bigSep Finset.univ fun x : Fin 8 × Fin 3 => semVal (sendCell k x.1 x.2 c) 0)
        ∗ bigSep Finset.univ fun x : Fin 8 × Fin 3 => semVal (recvCell k x.1 x.2 c) 0) := by
  unfold Pipeline.ownSems0
  rw [bigSep_univ_prod, bigSep_univ_eq_bigSepL [false, true] (by decide) (by decide)]
  rfl

/-- An exchange's cells put in use. -/
theorem open_one (κ : GSem nD τ sig → ℕ) (x : Fin 8 × Fin 3) :
    iprop(invs B κ ∗ (dormant k c x ∗ semVal (sendCell k x.1 x.2 c) 0 ∗ semVal (recvCell k x.1 x.2 c) 0))
      ⊢ (|={Set.univ}=> opened k c x : sProp 𝕄) := by
  unfold dormant opened right
  iintro ⟨#Hinv, ⟨Ho, Ho', Ht, Hu, Hc⟩, Hs, Hv⟩
  imod (cell_open ER (sched B) (g := sendCell k x.1 x.2 c) (Set.mem_univ (κ (sendCell k x.1 x.2 c)))) $$ [Ho Hs] with ⟨Hat, #Hr⟩
  · isplitr; · iapply (invs_get B κ c (.inr (false, k, x.1, x.2))) $$ Hinv
    isplitl [Ho] <;> iassumption
  imod (cell_open ER (sched B) (g := recvCell k x.1 x.2 c) (Set.mem_univ (κ (recvCell k x.1 x.2 c)))) $$ [Ho' Hv] with ⟨Hat', #Hr'⟩
  · isplitr; · iapply (invs_get B κ c (.inr (true, k, x.1, x.2))) $$ Hinv
    isplitl [Ho'] <;> iassumption
  imodintro
  isplitl
  · isplitl [Hat]
    · isplitl [Hat]; · iexact Hat
      iexact Hr
    isplitl [Hat']; · iexact Hat'
    isplitl [Ht]; · iexact Ht
    isplitl [Hu] <;> iassumption
  iexact Hr'

/-- A layer's cells put in use. -/
theorem open_layer : iprop(ticket B k c ∗ Pipeline.ownSems0 (osem k) c ∗ levAts L lv) ⊢ (|={Set.univ}=> admitted B k c : sProp 𝕄) := by
  rw [own_split]
  unfold ticket admitted
  iintro ⟨⟨⟨%κ, #Hinv⟩, Hg, Hd⟩, ⟨Hs, Hv⟩, #Hlev⟩
  ihave H := ((bigSep_with_persistent (R := invs B κ)
      (Φ := fun x => iprop(dormant k c x ∗ semVal (sendCell k x.1 x.2 c) 0 ∗ semVal (recvCell k x.1 x.2 c) 0))
      (Ψ := fun x => iprop(|={Set.univ}=> opened k c x)) (S := Finset.univ) fun x _ => open_one B k c κ x).trans (bigSep_fupd Finset.univ _)) $$ [Hd Hs Hv]
  · isplitr; · iexact Hinv
    rw [bigSep_sep', bigSep_sep']
    isplitl [Hd]; · iexact Hd
    isplitl [Hs] <;> iassumption
  imod H with H
  imodintro
  isplitr; · iexists κ; iexact Hinv
  isplitr; · iexact Hlev
  isplitl [Hg] <;> iassumption

/-- Every chunk's holdings, from the two scratch buffers and the exchanges in use. -/
theorem make_chunks : iprop((bigSep Finset.univ fun x : Fin 8 × Fin 3 => opened k c x) ∗ anyAt c (sendM k) ∗ anyAt c (commM k))
    ⊢ (bigSep Finset.univ fun j : Fin 8 => iprop(mine k j c ∗ ours k j c) : sProp 𝕄) := by
  unfold opened mine ours landing
  rw [bigSep_univ_prod]
  simp only [bigSep_sep']
  iintro ⟨⟨Hr, Hq⟩, Hs, Hv⟩
  ihave Hs := (send_split k c) $$ Hs
  ihave Hv := (comm_split k c) $$ Hv
  isplitl [Hs Hr]
  · isplitl [Hs] <;> iassumption
  isplitl [Hv] <;> iassumption

/-- And what every chunk leaves, put together. -/
theorem unmake_chunks [∀ e, Nonempty (Elt F e)] : (bigSep Finset.univ fun j : Fin 8 => spent k j c)
    ⊢ (iprop(anyAt c (sendM k) ∗ anyAt c (commM k) ∗ Pipeline.ownSems0 (osem k) c) : sProp 𝕄) := by
  rw [own_split, bigSep_univ_prod, bigSep_univ_prod]
  unfold spent worn
  simp only [bigSep_sep']
  iintro ⟨Hs, Hw, Hw', Hv⟩
  ihave Hs := (send_join k c) $$ Hs
  ihave Hv := (comm_join k c) $$ Hv
  isplitl [Hs]; · iexact Hs
  isplitl [Hv]; · iexact Hv
  isplitl [Hw] <;> iassumption

end Cert.KernelIdeal.Tp

end
-- ==== Proof.Ideal.Region.lean ====
/- Each layer as its pipeline runs it: what its arrays and windows hold, and its function at each point. -/
module

public import proofs.«01_k».proof.Proof.Ideal.Ghost

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-- A layer's scratch: the send and the landing buffer. -/
abbrev scratch (k : Fin 3) : List (Ref sig .tc) :=
  match k with
  | 0 => [cc0_scratch0, cc0_scratch1]
  | 1 => [cc1_scratch0, cc1_scratch1]
  | 2 => [cc2_scratch0, cc2_scratch1]

/-- The scoped buffers a layer neither stages through nor uses. -/
def others (k : Fin 3) (c : Dev nD) : sProp 𝕄 :=
  Pipeline.scopedRestBut (Ix := Unit) (Name := ℕ) (U := UU) (Lvl := ℕ) (Val := Elt F) (Pipeline.pin (pcfgs (F := F)) adm k).spec c (scratch k)

/-- The scoped buffers a layer does not stage through are its scratch and the others. -/
theorem scoped_split (k : Fin 3) (c : Dev nD) :
    (Pipeline.scopedRest (Ix := Unit) (Name := ℕ) (U := UU) (Lvl := ℕ) (Val := Elt F) (Pipeline.pin (pcfgs (F := F)) adm k).spec c : sProp 𝕄)
      = iprop((anyAt c (sendM k) ∗ anyAt c (commM k)) ∗ others k c) := by
  unfold anyAt
  match k with
  | 0 =>
    refine (Pipeline.scopedRest_split_of_list spec0 c [cc0_scratch0, cc0_scratch1] (by decide) (by decide)).trans (congrArg (fun P => iprop(P ∗ others 0 c)) ?_)
    unfold sendM commM; simp only [owns_whole]; rfl
  | 1 =>
    refine (Pipeline.scopedRest_split_of_list spec1 c [cc1_scratch0, cc1_scratch1] (by decide) (by decide)).trans (congrArg (fun P => iprop(P ∗ others 1 c)) ?_)
    unfold sendM commM; simp only [owns_whole]; rfl
  | 2 =>
    refine (Pipeline.scopedRest_split_of_list spec2 c [cc2_scratch0, cc2_scratch1] (by decide) (by decide)).trans (congrArg (fun P => iprop(P ∗ others 2 c)) ?_)
    unfold sendM commM; simp only [owns_whole]; rfl

variable (m : (ℓ : Loc nD τ sig) → Buf (Elt F) ℓ)

/-- What a device holds beside its windows at a layer's point `t`. -/
def inv (k : Fin 3) (c : Dev nD) (t : ℕ) : sProp 𝕄 :=
  iprop((∃ κ, invs (Bk m) κ) ∗ levAts L lv ∗ stateAt (F := F) k c t ∗ (∃ r, prngReg c r) ∗ others (F := F) k c)

/-- A layer's start. -/
theorem inv_start (k : Fin 3) (c : Dev nD) (V : Valuation τ sig (Elt F)) :
    iprop(Pipeline.scopedRest (Ix := Unit) (Name := ℕ) (U := UU) (Lvl := ℕ) (Val := Elt F) (Pipeline.pin (pcfgs (F := F)) adm k).spec c ∗ (∃ r, prngReg c r)
      ∗ StableHlo.held (c.tc : Thread nD τ) ∅ V ∗ admitted (Bk m) k c) ⊢ inv m k c 0 := by
  rw [scoped_split]
  unfold admitted inv stateAt before
  rw [if_pos rfl]
  iintro ⟨⟨⟨Hs, Hv⟩, Ho⟩, Hp, -, ⟨Hinv, Hlev, Hg, Hx⟩⟩
  isplitl [Hinv]; · iexact Hinv
  isplitl [Hlev]; · iexact Hlev
  isplitr [Hp Ho]
  · isplitl [Hg]; · iexact Hg
    iapply (make_chunks k c)
    isplitl [Hx]; · iexact Hx
    isplitl [Hs] <;> iassumption
  isplitl [Hp] <;> iassumption

/-- A layer's end. -/
theorem inv_end [∀ e, Nonempty (Elt F e)] (k : Fin 3) (c : Dev nD) (V : Valuation τ sig (Elt F)) :
    inv m k c 8 ⊢ iprop(Pipeline.scopedRest (Ix := Unit) (Name := ℕ) (U := UU) (Lvl := ℕ) (Val := Elt F) (Pipeline.pin (pcfgs (F := F)) adm k).spec c ∗ (∃ r, prngReg c r)
      ∗ StableHlo.held (c.tc : Thread nD τ) ∅ V ∗ Pipeline.ownSems0 (osem k) c ∗ semVal (barCell k c) 0) := by
  rw [scoped_split]
  unfold inv stateAt
  rw [if_neg (by decide), during_end]
  unfold after StableHlo.held
  rw [bigSep_empty]
  iintro ⟨-, -, ⟨Hb, Hx⟩, Hp, Ho⟩
  ihave Hx := (unmake_chunks k c) $$ Hx
  icases Hx with ⟨Hs, Hv, Hw⟩
  isplitl [Hs Hv Ho]
  · isplitr [Ho]
    · isplitl [Hs] <;> iassumption
    iexact Ho
  isplitl [Hp]; · iexact Hp
  isplitr; · iempintro
  isplitl [Hw] <;> iassumption

/-- One point of a layer: a chunk is worked through and the result is one chunk further. -/
theorem layer_step {e : EltTy} (prod : Vec F S64x2048 e → Vec F S2048x512 .bf16 → FVec F S64x512 .f32) (k : Fin 3) (j : Fin 8) (c : Dev nD)
    (x : Memref sig .tc .vmem S64x2048 e) (win : Memref sig .tc .vmem S2048x512 .bf16) (wout : Memref sig .tc .vmem S512x2048 .bf16)
    (out : Memref sig .tc .vmem S64x2048 .f32) (vx : Vec F S64x2048 e) (r : Vec F S64x2048 .f32)
    (hp : part m k j c = prod vx (winOf m k j c)) (hr : (if j.val = 0 then k0_pay1 (F := F) else r) = accOf m k c j.val) (Q : PUnit → sProp 𝕄) :
    iprop(inv m k c j.val ∗ debt c (laterDue k c + layerDue k j.val c)
        ∗ owns (c : Thread nD τ) x fullShare vx ∗ owns (c : Thread nD τ) win fullShare (winOf m k j c) ∗ owns (c : Thread nD τ) wout fullShare (woutOf m k j c)
        ∗ owns (c : Thread nD τ) out fullShare r)
      ⊢ iprop((inv m k c (j.val + 1) ∗ debt c (laterDue k c + layerDue k (j.val + 1) c)
            ∗ owns (c : Thread nD τ) x fullShare vx ∗ owns (c : Thread nD τ) win fullShare (winOf m k j c) ∗ owns (c : Thread nD τ) wout fullShare (woutOf m k j c)
            ∗ owns (c : Thread nD τ) out fullShare (accOf m k c (j.val + 1)) -∗ Q ⟨⟩)
        -∗ runs c (body prod (barS k) (pt j) x win wout out (sendM k) (sendM_whole k) (commM k) (commM_whole k) (sendS k) (recvS k)) Q) := by
  rw [show accOf m k c (j.val + 1) = stepOut (prod vx (winOf m k j c)) (Bk m k j (peer (Fin.rev 0) c)) (Bk m k j (peer (Fin.rev 1) c)) (Bk m k j (peer (Fin.rev 2) c))
      (if j.val = 0 then k0_pay1 (F := F) else r) (woutOf m k j c) from by
    rw [hr, ← hp]; exact acc_step (part m k) (woutOf m k) c j]
  unfold inv
  iintro ⟨⟨⟨%κ, #Hinv⟩, #Hlev, Hst, Hp, Ho⟩, HO, Hx, Hw, Hwo, Hout⟩ HQ
  iapply (body_step (Bk m) κ prod k j c x win wout out vx (winOf m k j c) (woutOf m k j c) r (congrArg sent hp) Q) $$ [Hst HO Hx Hw Hwo Hout]
  · isplitr; · iexact Hinv
    isplitr; · iexact Hlev
    isplitl [Hst]; · iexact Hst
    isplitl [HO]; · iexact HO
    isplitl [Hx]; · iexact Hx
    isplitl [Hw]; · iexact Hw
    isplitl [Hwo] <;> iassumption
  iintro ⟨Hst, HO, Hx, Hw, Hwo, Hout⟩
  iapply HQ
  isplitl [Hst Hp Ho]
  · isplitr; · iexists κ; iexact Hinv
    isplitr; · iexact Hlev
    isplitl [Hst]; · iexact Hst
    isplitl [Hp] <;> iassumption
  isplitl [HO]; · iexact HO
  isplitl [Hx]; · iexact Hx
  isplitl [Hw]; · iexact Hw
  isplitl [Hwo] <;> iassumption

/-- What a device owes at a layer's point `t`: that layer's rest and the layers after it. -/
def owedAt (k : Fin 3) (c : Dev nD) (t : ℕ) : CellTallies nD τ sig Unit := laterDue k c + layerDue k t c

/-- At its end a layer leaves what the later layers owe. -/
theorem owedAt_end (k : Fin 3) (c : Dev nD) : owedAt k c 8 = laterDue k c := by
  unfold owedAt layerDue; rw [chunksDue_end, if_neg (by decide), add_zero, add_zero]

/-- What a layer's proof records of the core's dues, taken out and put back. -/
theorem owes_out {cfg : Pipeline.Cfg sig Λ₀} {c : Dev nD} (dat : Pipeline.Dat τ (Elt F) Unit ℕ UU ℕ cfg c) (t : Fin (cfg.N + 1)) :
    (dat.owesAt () t : sProp 𝕄) ⊢ debt c (dat.owed t) := by
  unfold Pipeline.Dat.owesAt Pipeline.owesWithin debt
  iintro ⟨%W, -, H⟩; iexists W; iexact H
/-- The same, put back. -/
theorem owes_in {cfg : Pipeline.Cfg sig Λ₀} {c : Dev nD} (dat : Pipeline.Dat τ (Elt F) Unit ℕ UU ℕ cfg c) (t : Fin (cfg.N + 1)) (h : dat.recorded t = Set.univ) :
    (debt c (dat.owed t) : sProp 𝕄) ⊢ dat.owesAt () t := by
  unfold Pipeline.Dat.owesAt Pipeline.owesWithin Pipeline.Dat.bound debt
  rw [h]
  iintro ⟨%W, H⟩; iexists W; isplitr; · ipureintro; exact fun _ _ => Or.inl trivial
  iexact H

/-- The grid's point `t` is chunk `t`'s. -/
theorem coords_val : ∀ t : Fin grid0.N, (grid0.coords t 0).val = t.val := by decide +kernel
/-- The grid point `t` is chunk `t`. -/
theorem coords_pt (t : Fin grid0.N) : grid0.coords t = pt (t.cast N_0) := by
  funext a
  obtain rfl : a = 0 := Subsingleton.elim _ _
  exact Fin.ext (coords_val t)

/-- The result's one block is its whole array. -/
theorem cover0 (t : Fin cfg0.N) (i : S64x2048.Idx) : i ∈ ((cfg0.win 3).blk t).view.set := Finset.mem_map.mpr ⟨i, Finset.mem_univ _, whole_idx i _ rfl rfl⟩
/-- The second layer's result block is its whole array, -/
theorem cover1 (t : Fin cfg1.N) (i : S64x2048.Idx) : i ∈ ((cfg1.win 3).blk t).view.set := Finset.mem_map.mpr ⟨i, Finset.mem_univ _, whole_idx i _ rfl rfl⟩
/-- and the third's. -/
theorem cover2 (t : Fin cfg2.N) (i : S64x2048.Idx) : i ∈ ((cfg2.win 3).blk t).view.set := Finset.mem_map.mpr ⟨i, Finset.mem_univ _, whole_idx i _ rfl rfl⟩

/-! ## Layer 0 -/

section Layer0

/-- Layer 0's proof data on device `c`: the arrays at entry, the windows after each point, what else is held and what is owed. -/
def dat0 (c : Dev nD) : Pipeline.Dat τ (Elt F) Unit ℕ UU ℕ cfg0 c where
  A w := W0 m c (Proc.devRef .tc (Pipeline.arrRef spec0 w))
  after w t := match w with
    | 0 => m ((c : Thread nD τ).loc main_arg0)
    | 1 => winOf m 0 (t.cast N_0) c
    | 2 => woutOf m 0 (t.cast N_0) c
    | 3 => accOf m 0 c (t.val + 1)
  Φ t := inv m 0 c t.val
  q _ := fullShare
  owed t := owedAt 0 c t.val

variable (c : Dev nD)

/-- What the layer's array, its first weight and its second weight hold at entry. -/
theorem A0_0 : (dat0 m c).A 0 = m ((c : Thread nD τ).loc main_arg0) := rfl
/-- Its first weight is `main_arg1`, -/
theorem A0_1 : (dat0 m c).A 1 = m ((c : Thread nD τ).loc main_arg1) := rfl
/-- its second weight `main_arg4`. -/
theorem A0_2 : (dat0 m c).A 2 = m ((c : Thread nD τ).loc main_arg4) := rfl

/-- The input's block is the input, -/
theorem block0_0 (t : Fin cfg0.N) : (dat0 m c).blockOf 0 t = (dat0 m c).after 0 t :=
  (congrArg (((cfg0.win 0).blk t).view.read (Elt F)) (A0_0 m c)).trans (x_read0 t _)
/-- the first weight's is the chunk's columns, -/
theorem block0_1 (t : Fin cfg0.N) : (dat0 m c).blockOf 1 t = (dat0 m c).after 1 t :=
  (congrArg (((cfg0.win 1).blk t).view.read (Elt F)) (A0_1 m c)).trans (win_read0 t _)
/-- the second weight's the chunk's rows. -/
theorem block0_2 (t : Fin cfg0.N) : (dat0 m c).blockOf 2 t = (dat0 m c).after 2 t :=
  (congrArg (((cfg0.win 2).blk t).view.read (Elt F)) (A0_2 m c)).trans (wout_read0 t _)

/-- What each window holds before a point: an input its block, the result what the chunks so far made. -/
theorem before0_0 (t : Fin cfg0.N) (d) : (dat0 m c).before 0 t d = (dat0 m c).after 0 t :=
  ((dat0 m c).before_in_eq_fetched 0 rfl (fun _ => rfl) (fun _ _ _ => rfl) (fun t => (block0_0 m c t).symm) t d).trans (block0_0 m c t)
/-- The first weight's window holds its block before a point, -/
theorem before0_1 (t : Fin cfg0.N) (d) : (dat0 m c).before 1 t d = (dat0 m c).after 1 t :=
  ((dat0 m c).before_in_eq_fetched 1 rfl (fun _ => rfl) (fun _ _ _ => rfl) (fun t => (block0_1 m c t).symm) t d).trans (block0_1 m c t)
/-- the second weight's its own, -/
theorem before0_2 (t : Fin cfg0.N) (d) : (dat0 m c).before 2 t d = (dat0 m c).after 2 t :=
  ((dat0 m c).before_in_eq_fetched 2 rfl (fun _ => rfl) (fun _ _ _ => rfl) (fun t => (block0_2 m c t).symm) t d).trans (block0_2 m c t)
/-- and the result's what the chunks so far made. -/
theorem before0_3 (t : Fin cfg0.N) (d : Vec F S64x2048 .f32) :
    (if t.val = 0 then k0_pay1 (F := F) else (dat0 m c).before 3 t d) = accOf m 0 c t.val := by
  split
  · next h => rw [h]; rfl
  · next h =>
    have hl : t.val < 8 := (t.cast N_0).isLt
    rw [(dat0 m c).before_out_kept 3 rfl t h (Bool.eq_false_iff.mpr fun hf => by
      have := (flush0_3 _).mp hf
      have h' : (t.val - 1) % 8 = 7 := this
      omega) (fun _ => rfl) (fun _ _ => rfl) d]
    show accOf m 0 c (t.val - 1 + 1) = _
    rw [Nat.sub_add_cancel (Nat.pos_of_ne_zero h)]

/-- Layer 0's function at each point. -/
theorem hbody0 : Pipeline.BodyObligation (dat0 m c) defs₀ 𝒱₀ () Set.univ := fun t => by
  rw [bigSep_W0, bigSep_W0]
  show iprop(inv m 0 c t.val ∗ (dat0 m c).owesAt () t.castSucc
      ∗ (∃ d, owns (c : Thread nD τ) (st0_0 t) fullShare ((dat0 m c).before 0 t d)) ∗ (∃ d, owns (c : Thread nD τ) (st0_1 t) fullShare ((dat0 m c).before 1 t d))
      ∗ (∃ d, owns (c : Thread nD τ) (st0_2 t) fullShare ((dat0 m c).before 2 t d)) ∗ (∃ d, owns (c : Thread nD τ) (st0_3 t) fullShare ((dat0 m c).before 3 t d)))
    ⊢ runs c (bodyAt0 t) fun _ => iprop(inv m 0 c (t.val + 1) ∗ (dat0 m c).owesAt () t.succ
      ∗ owns (c : Thread nD τ) (st0_0 t) fullShare ((dat0 m c).after 0 t) ∗ owns (c : Thread nD τ) (st0_1 t) fullShare ((dat0 m c).after 1 t)
      ∗ owns (c : Thread nD τ) (st0_2 t) fullShare ((dat0 m c).after 2 t) ∗ owns (c : Thread nD τ) (st0_3 t) fullShare ((dat0 m c).after 3 t))
  unfold bodyAt0
  rw [layer0_eq, show grid0.coords t = pt (t.cast N_0) from coords_pt t]
  simp only [before0_0, before0_1, before0_2]
  iintro ⟨Hi, HO, ⟨%_, Hx⟩, ⟨%_, Hw⟩, ⟨%_, Hwo⟩, ⟨%d, Hr⟩⟩
  ihave HO := (owes_out (dat0 m c) t.castSucc) $$ HO
  iapply (layer_step m k0_pay2 0 (t.cast N_0) c (st0_0 t) (st0_1 t) (st0_2 t) (st0_3 t) (m ((c : Thread nD τ).loc main_arg0)) ((dat0 m c).before 3 t d) rfl (before0_3 m c t d) _) $$ [Hi HO Hx Hw Hwo Hr]
  · isplitl [Hi]; · iexact Hi
    isplitl [HO]; · iexact HO
    isplitl [Hx]; · iexact Hx
    isplitl [Hw]; · iexact Hw
    isplitl [Hwo]; · iexact Hwo
    iexact Hr
  iintro ⟨Hi, HO, Hx, Hw, Hwo, Hr⟩
  isplitl [Hi]; · iexact Hi
  isplitl [HO]; · iapply (owes_in (dat0 m c) t.succ rfl); iexact HO
  isplitl [Hx]; · iexact Hx
  isplitl [Hw]; · iexact Hw
  isplitl [Hwo]; · iexact Hwo
  iexact Hr

/-- The layer's arrays at its end: the inputs as they were, the result at its last value. -/
theorem final0 (w : Fin 4) : (dat0 m c).arrAt w cfg0.N = W1 m c (Proc.devRef .tc (Pipeline.arrRef spec0 w)) :=
  match w with
  | 0 => ((dat0 m c).arrAt_in 0 rfl _).trans (W1_of m c (Proc.devRef .tc (Pipeline.arrRef spec0 0)) (by decide)).symm
  | 1 => ((dat0 m c).arrAt_in 1 rfl _).trans (W1_of m c (Proc.devRef .tc (Pipeline.arrRef spec0 1)) (by decide)).symm
  | 2 => ((dat0 m c).arrAt_in 2 rfl _).trans (W1_of m c (Proc.devRef .tc (Pipeline.arrRef spec0 2)) (by decide)).symm
  | 3 => by
    have key (t : Fin cfg0.N) (h : (cfg0.win 3).flush t = true) : (dat0 m c).flushed 3 t = out0 m c := by
      have h7 : t.val % 8 = 7 := (flush0_3 t).mp h
      have hl : t.val < 8 := (t.cast N_0).isLt
      show accOf m 0 c (t.val + 1) = _
      rw [show t.val + 1 = 8 by omega]
      rfl
    refine ((dat0 m c).arrAt_eq_of_cover 3 (out0 m c) (fun t h => (key t h).trans (out_read0 t _).symm) fun i => ?_).trans (W1_out m c).symm
    exact ⟨⟨7, by rw [show cfg0.N = 8 from N_0]; decide⟩, (flush0_3 _).mpr rfl, cover0 _ i⟩

end Layer0

/-! ## Layer 1 -/

section Layer1

/-- Layer 1's proof data on device `c`: the arrays at entry, the windows after each point, what else is held and what is owed. -/
def dat1 (c : Dev nD) : Pipeline.Dat τ (Elt F) Unit ℕ UU ℕ cfg1 c where
  A w := W1 m c (Proc.devRef .tc (Pipeline.arrRef spec1 w))
  after w t := match w with
    | 0 => out0 m c
    | 1 => winOf m 1 (t.cast N_0) c
    | 2 => woutOf m 1 (t.cast N_0) c
    | 3 => accOf m 1 c (t.val + 1)
  Φ t := inv m 1 c t.val
  q _ := fullShare
  owed t := owedAt 1 c t.val

variable (c : Dev nD)

/-- What the layer's array, its first weight and its second weight hold at entry. -/
theorem A1_0 : (dat1 m c).A 0 = out0 m c := W1_out m c
/-- Its first weight is `main_arg2`, -/
theorem A1_1 : (dat1 m c).A 1 = m ((c : Thread nD τ).loc main_arg2) := W1_of m c main_arg2 (by decide)
/-- its second weight `main_arg5`. -/
theorem A1_2 : (dat1 m c).A 2 = m ((c : Thread nD τ).loc main_arg5) := W1_of m c main_arg5 (by decide)

/-- The input's block is the input, -/
theorem block1_0 (t : Fin cfg1.N) : (dat1 m c).blockOf 0 t = (dat1 m c).after 0 t :=
  (congrArg (((cfg1.win 0).blk t).view.read (Elt F)) (A1_0 m c)).trans (x_read1 t _)
/-- the first weight's is the chunk's columns, -/
theorem block1_1 (t : Fin cfg1.N) : (dat1 m c).blockOf 1 t = (dat1 m c).after 1 t :=
  (congrArg (((cfg1.win 1).blk t).view.read (Elt F)) (A1_1 m c)).trans (win_read1 t _)
/-- the second weight's the chunk's rows. -/
theorem block1_2 (t : Fin cfg1.N) : (dat1 m c).blockOf 2 t = (dat1 m c).after 2 t :=
  (congrArg (((cfg1.win 2).blk t).view.read (Elt F)) (A1_2 m c)).trans (wout_read1 t _)

/-- What each window holds before a point: an input its block, the result what the chunks so far made. -/
theorem before1_0 (t : Fin cfg1.N) (d) : (dat1 m c).before 0 t d = (dat1 m c).after 0 t :=
  ((dat1 m c).before_in_eq_fetched 0 rfl (fun _ => rfl) (fun _ _ _ => rfl) (fun t => (block1_0 m c t).symm) t d).trans (block1_0 m c t)
/-- The first weight's window holds its block before a point, -/
theorem before1_1 (t : Fin cfg1.N) (d) : (dat1 m c).before 1 t d = (dat1 m c).after 1 t :=
  ((dat1 m c).before_in_eq_fetched 1 rfl (fun _ => rfl) (fun _ _ _ => rfl) (fun t => (block1_1 m c t).symm) t d).trans (block1_1 m c t)
/-- the second weight's its own, -/
theorem before1_2 (t : Fin cfg1.N) (d) : (dat1 m c).before 2 t d = (dat1 m c).after 2 t :=
  ((dat1 m c).before_in_eq_fetched 2 rfl (fun _ => rfl) (fun _ _ _ => rfl) (fun t => (block1_2 m c t).symm) t d).trans (block1_2 m c t)
/-- and the result's what the chunks so far made. -/
theorem before1_3 (t : Fin cfg1.N) (d : Vec F S64x2048 .f32) :
    (if t.val = 0 then k0_pay1 (F := F) else (dat1 m c).before 3 t d) = accOf m 1 c t.val := by
  split
  · next h => rw [h]; rfl
  · next h =>
    have hl : t.val < 8 := (t.cast N_0).isLt
    rw [(dat1 m c).before_out_kept 3 rfl t h (Bool.eq_false_iff.mpr fun hf => by
      have := (flush1_3 _).mp hf
      have h' : (t.val - 1) % 8 = 7 := this
      omega) (fun _ => rfl) (fun _ _ => rfl) d]
    show accOf m 1 c (t.val - 1 + 1) = _
    rw [Nat.sub_add_cancel (Nat.pos_of_ne_zero h)]

/-- Layer 1's function at each point. -/
theorem hbody1 : Pipeline.BodyObligation (dat1 m c) defs₀ 𝒱₀ () Set.univ := fun t => by
  rw [bigSep_W1, bigSep_W1]
  show iprop(inv m 1 c t.val ∗ (dat1 m c).owesAt () t.castSucc
      ∗ (∃ d, owns (c : Thread nD τ) (st1_0 t) fullShare ((dat1 m c).before 0 t d)) ∗ (∃ d, owns (c : Thread nD τ) (st1_1 t) fullShare ((dat1 m c).before 1 t d))
      ∗ (∃ d, owns (c : Thread nD τ) (st1_2 t) fullShare ((dat1 m c).before 2 t d)) ∗ (∃ d, owns (c : Thread nD τ) (st1_3 t) fullShare ((dat1 m c).before 3 t d)))
    ⊢ runs c (bodyAt1 t) fun _ => iprop(inv m 1 c (t.val + 1) ∗ (dat1 m c).owesAt () t.succ
      ∗ owns (c : Thread nD τ) (st1_0 t) fullShare ((dat1 m c).after 0 t) ∗ owns (c : Thread nD τ) (st1_1 t) fullShare ((dat1 m c).after 1 t)
      ∗ owns (c : Thread nD τ) (st1_2 t) fullShare ((dat1 m c).after 2 t) ∗ owns (c : Thread nD τ) (st1_3 t) fullShare ((dat1 m c).after 3 t))
  unfold bodyAt1
  rw [layer1_eq, show grid1.coords t = pt (t.cast N_0) from coords_pt t]
  simp only [before1_0, before1_1, before1_2]
  iintro ⟨Hi, HO, ⟨%_, Hx⟩, ⟨%_, Hw⟩, ⟨%_, Hwo⟩, ⟨%d, Hr⟩⟩
  ihave HO := (owes_out (dat1 m c) t.castSucc) $$ HO
  iapply (layer_step m k1_pay2 1 (t.cast N_0) c (st1_0 t) (st1_1 t) (st1_2 t) (st1_3 t) (out0 m c) ((dat1 m c).before 3 t d) rfl (before1_3 m c t d) _) $$ [Hi HO Hx Hw Hwo Hr]
  · isplitl [Hi]; · iexact Hi
    isplitl [HO]; · iexact HO
    isplitl [Hx]; · iexact Hx
    isplitl [Hw]; · iexact Hw
    isplitl [Hwo]; · iexact Hwo
    iexact Hr
  iintro ⟨Hi, HO, Hx, Hw, Hwo, Hr⟩
  isplitl [Hi]; · iexact Hi
  isplitl [HO]; · iapply (owes_in (dat1 m c) t.succ rfl); iexact HO
  isplitl [Hx]; · iexact Hx
  isplitl [Hw]; · iexact Hw
  isplitl [Hwo]; · iexact Hwo
  iexact Hr

/-- The layer's arrays at its end: the inputs as they were, the result at its last value. -/
theorem final1 (w : Fin 4) : (dat1 m c).arrAt w cfg1.N = W2 m c (Proc.devRef .tc (Pipeline.arrRef spec1 w)) :=
  match w with
  | 0 => ((dat1 m c).arrAt_in 0 rfl _).trans (W2_of m c (Proc.devRef .tc (Pipeline.arrRef spec1 0)) (by decide)).symm
  | 1 => ((dat1 m c).arrAt_in 1 rfl _).trans (W2_of m c (Proc.devRef .tc (Pipeline.arrRef spec1 1)) (by decide)).symm
  | 2 => ((dat1 m c).arrAt_in 2 rfl _).trans (W2_of m c (Proc.devRef .tc (Pipeline.arrRef spec1 2)) (by decide)).symm
  | 3 => by
    have key (t : Fin cfg1.N) (h : (cfg1.win 3).flush t = true) : (dat1 m c).flushed 3 t = out1 m c := by
      have h7 : t.val % 8 = 7 := (flush1_3 t).mp h
      have hl : t.val < 8 := (t.cast N_0).isLt
      show accOf m 1 c (t.val + 1) = _
      rw [show t.val + 1 = 8 by omega]
      rfl
    refine ((dat1 m c).arrAt_eq_of_cover 3 (out1 m c) (fun t h => (key t h).trans (out_read1 t _).symm) fun i => ?_).trans (W2_out m c).symm
    exact ⟨⟨7, by rw [show cfg1.N = 8 from N_0]; decide⟩, (flush1_3 _).mpr rfl, cover1 _ i⟩

end Layer1

/-! ## Layer 2 -/

section Layer2

/-- Layer 2's proof data on device `c`: the arrays at entry, the windows after each point, what else is held and what is owed. -/
def dat2 (c : Dev nD) : Pipeline.Dat τ (Elt F) Unit ℕ UU ℕ cfg2 c where
  A w := W2 m c (Proc.devRef .tc (Pipeline.arrRef spec2 w))
  after w t := match w with
    | 0 => out1 m c
    | 1 => winOf m 2 (t.cast N_0) c
    | 2 => woutOf m 2 (t.cast N_0) c
    | 3 => accOf m 2 c (t.val + 1)
  Φ t := inv m 2 c t.val
  q _ := fullShare
  owed t := owedAt 2 c t.val

variable (c : Dev nD)

/-- What the layer's array, its first weight and its second weight hold at entry. -/
theorem A2_0 : (dat2 m c).A 0 = out1 m c := W2_out m c
/-- Its first weight is `main_arg3`, -/
theorem A2_1 : (dat2 m c).A 1 = m ((c : Thread nD τ).loc main_arg3) := (W2_of m c main_arg3 (by decide)).trans (W1_of m c main_arg3 (by decide))
/-- its second weight `main_arg6`. -/
theorem A2_2 : (dat2 m c).A 2 = m ((c : Thread nD τ).loc main_arg6) := (W2_of m c main_arg6 (by decide)).trans (W1_of m c main_arg6 (by decide))

/-- The input's block is the input, -/
theorem block2_0 (t : Fin cfg2.N) : (dat2 m c).blockOf 0 t = (dat2 m c).after 0 t :=
  (congrArg (((cfg2.win 0).blk t).view.read (Elt F)) (A2_0 m c)).trans (x_read2 t _)
/-- the first weight's is the chunk's columns, -/
theorem block2_1 (t : Fin cfg2.N) : (dat2 m c).blockOf 1 t = (dat2 m c).after 1 t :=
  (congrArg (((cfg2.win 1).blk t).view.read (Elt F)) (A2_1 m c)).trans (win_read2 t _)
/-- the second weight's the chunk's rows. -/
theorem block2_2 (t : Fin cfg2.N) : (dat2 m c).blockOf 2 t = (dat2 m c).after 2 t :=
  (congrArg (((cfg2.win 2).blk t).view.read (Elt F)) (A2_2 m c)).trans (wout_read2 t _)

/-- What each window holds before a point: an input its block, the result what the chunks so far made. -/
theorem before2_0 (t : Fin cfg2.N) (d) : (dat2 m c).before 0 t d = (dat2 m c).after 0 t :=
  ((dat2 m c).before_in_eq_fetched 0 rfl (fun _ => rfl) (fun _ _ _ => rfl) (fun t => (block2_0 m c t).symm) t d).trans (block2_0 m c t)
/-- The first weight's window holds its block before a point, -/
theorem before2_1 (t : Fin cfg2.N) (d) : (dat2 m c).before 1 t d = (dat2 m c).after 1 t :=
  ((dat2 m c).before_in_eq_fetched 1 rfl (fun _ => rfl) (fun _ _ _ => rfl) (fun t => (block2_1 m c t).symm) t d).trans (block2_1 m c t)
/-- the second weight's its own, -/
theorem before2_2 (t : Fin cfg2.N) (d) : (dat2 m c).before 2 t d = (dat2 m c).after 2 t :=
  ((dat2 m c).before_in_eq_fetched 2 rfl (fun _ => rfl) (fun _ _ _ => rfl) (fun t => (block2_2 m c t).symm) t d).trans (block2_2 m c t)
/-- and the result's what the chunks so far made. -/
theorem before2_3 (t : Fin cfg2.N) (d : Vec F S64x2048 .f32) :
    (if t.val = 0 then k0_pay1 (F := F) else (dat2 m c).before 3 t d) = accOf m 2 c t.val := by
  split
  · next h => rw [h]; rfl
  · next h =>
    have hl : t.val < 8 := (t.cast N_0).isLt
    rw [(dat2 m c).before_out_kept 3 rfl t h (Bool.eq_false_iff.mpr fun hf => by
      have := (flush2_3 _).mp hf
      have h' : (t.val - 1) % 8 = 7 := this
      omega) (fun _ => rfl) (fun _ _ => rfl) d]
    show accOf m 2 c (t.val - 1 + 1) = _
    rw [Nat.sub_add_cancel (Nat.pos_of_ne_zero h)]

/-- Layer 2's function at each point. -/
theorem hbody2 : Pipeline.BodyObligation (dat2 m c) defs₀ 𝒱₀ () Set.univ := fun t => by
  rw [bigSep_W2, bigSep_W2]
  show iprop(inv m 2 c t.val ∗ (dat2 m c).owesAt () t.castSucc
      ∗ (∃ d, owns (c : Thread nD τ) (st2_0 t) fullShare ((dat2 m c).before 0 t d)) ∗ (∃ d, owns (c : Thread nD τ) (st2_1 t) fullShare ((dat2 m c).before 1 t d))
      ∗ (∃ d, owns (c : Thread nD τ) (st2_2 t) fullShare ((dat2 m c).before 2 t d)) ∗ (∃ d, owns (c : Thread nD τ) (st2_3 t) fullShare ((dat2 m c).before 3 t d)))
    ⊢ runs c (bodyAt2 t) fun _ => iprop(inv m 2 c (t.val + 1) ∗ (dat2 m c).owesAt () t.succ
      ∗ owns (c : Thread nD τ) (st2_0 t) fullShare ((dat2 m c).after 0 t) ∗ owns (c : Thread nD τ) (st2_1 t) fullShare ((dat2 m c).after 1 t)
      ∗ owns (c : Thread nD τ) (st2_2 t) fullShare ((dat2 m c).after 2 t) ∗ owns (c : Thread nD τ) (st2_3 t) fullShare ((dat2 m c).after 3 t))
  unfold bodyAt2
  rw [layer2_eq, show grid2.coords t = pt (t.cast N_0) from coords_pt t]
  simp only [before2_0, before2_1, before2_2]
  iintro ⟨Hi, HO, ⟨%_, Hx⟩, ⟨%_, Hw⟩, ⟨%_, Hwo⟩, ⟨%d, Hr⟩⟩
  ihave HO := (owes_out (dat2 m c) t.castSucc) $$ HO
  iapply (layer_step m k2_pay2 2 (t.cast N_0) c (st2_0 t) (st2_1 t) (st2_2 t) (st2_3 t) (out1 m c) ((dat2 m c).before 3 t d) rfl (before2_3 m c t d) _) $$ [Hi HO Hx Hw Hwo Hr]
  · isplitl [Hi]; · iexact Hi
    isplitl [HO]; · iexact HO
    isplitl [Hx]; · iexact Hx
    isplitl [Hw]; · iexact Hw
    isplitl [Hwo]; · iexact Hwo
    iexact Hr
  iintro ⟨Hi, HO, Hx, Hw, Hwo, Hr⟩
  isplitl [Hi]; · iexact Hi
  isplitl [HO]; · iapply (owes_in (dat2 m c) t.succ rfl); iexact HO
  isplitl [Hx]; · iexact Hx
  isplitl [Hw]; · iexact Hw
  isplitl [Hwo]; · iexact Hwo
  iexact Hr

/-- The layer's arrays at its end: the inputs as they were, the result at its last value. -/
theorem final2 (w : Fin 4) : (dat2 m c).arrAt w cfg2.N = W3 m c (Proc.devRef .tc (Pipeline.arrRef spec2 w)) :=
  match w with
  | 0 => ((dat2 m c).arrAt_in 0 rfl _).trans (W3_of m c (Proc.devRef .tc (Pipeline.arrRef spec2 0)) (by decide)).symm
  | 1 => ((dat2 m c).arrAt_in 1 rfl _).trans (W3_of m c (Proc.devRef .tc (Pipeline.arrRef spec2 1)) (by decide)).symm
  | 2 => ((dat2 m c).arrAt_in 2 rfl _).trans (W3_of m c (Proc.devRef .tc (Pipeline.arrRef spec2 2)) (by decide)).symm
  | 3 => by
    have key (t : Fin cfg2.N) (h : (cfg2.win 3).flush t = true) : (dat2 m c).flushed 3 t = out2 m c := by
      have h7 : t.val % 8 = 7 := (flush2_3 t).mp h
      have hl : t.val < 8 := (t.cast N_0).isLt
      show accOf m 2 c (t.val + 1) = _
      rw [show t.val + 1 = 8 by omega]
      rfl
    refine ((dat2 m c).arrAt_eq_of_cover 3 (out2 m c) (fun t h => (key t h).trans (out_read2 t _).symm) fun i => ?_).trans (W3_out m c).symm
    exact ⟨⟨7, by rw [show cfg2.N = 8 from N_0]; decide⟩, (flush2_3 _).mpr rfl, cover2 _ i⟩

end Layer2

end Cert.KernelIdeal.Tp

end
-- ==== Proof.Ideal.Segs.lean ====
/- The three layers as regions of the program, and what a device holds between them. -/
module

public import proofs.«01_k».proof.Proof.Ideal.Region

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ)

/-- The three layers' proof data. -/
def pdats : (p : Fin 3) → (c : Dev nD) → Pipeline.Dat τ (Elt F) Unit ℕ UU ℕ (Pipeline.pin (pcfgs (F := F)) adm p) c
  | 0 => dat0 m
  | 1 => dat1 m
  | 2 => dat2 m

/-- The unscoped buffers before layer `n`. -/
def Wat (n : ℕ) (c : Dev nD) : Valuation τ sig (Elt F) :=
  match n with
  | 0 => W0 m c
  | 1 => W1 m c
  | 2 => W2 m c
  | _ => W3 m c

/-- What a device owes before layer `n`. -/
def dueFrom (n : ℕ) (c : Dev nD) : CellTallies nD τ sig Unit := ∑ k ∈ Finset.univ.filter (fun k : Fin 3 => n ≤ k.val), layerDue k 0 c

/-- What is owed before the next layer is what is owed for the later ones, -/
theorem dueFrom_succ (k : Fin 3) (c : Dev nD) : dueFrom (k.val + 1) c = laterDue k c := rfl
/-- and before this one that and its own. -/
theorem dueFrom_split (k : Fin 3) (c : Dev nD) : dueFrom k.val c = laterDue k c + layerDue k 0 c := by
  unfold dueFrom laterDue
  rw [show Finset.univ.filter (fun i : Fin 3 => k.val ≤ i.val) = insert k (Finset.univ.filter (fun i : Fin 3 => k < i)) from by revert k; decide,
    Finset.sum_insert (by simp), add_comm]
/-- After the third layer nothing is owed. -/
theorem dueFrom_end (c : Dev nD) : dueFrom 3 c = 0 := by
  unfold dueFrom
  rw [show Finset.univ.filter (fun i : Fin 3 => 3 ≤ i.val) = ∅ from by decide, Finset.sum_empty]

/-- What a device keeps for layer `k` before layer `n`: what it brings to it, or the barrier's counter back at zero. -/
def keeps (n : ℕ) (c : Dev nD) (k : Fin 3) : sProp 𝕄 := if k.val < n then semVal (barCell k c) 0 else ticket (Bk m) k c

/-- What a device holds before layer `n`. -/
def between (n : ℕ) (c : Dev nD) : sProp 𝕄 :=
  iprop(StableHlo.held (c : Thread nD τ) (Pipeline.ucRefs τ sig) (Wat m n c) ∗ (∃ r, prngReg c r) ∗ (bigSep Finset.univ fun k : Fin 3 => keeps m n c k) ∗ debt c (dueFrom n c))

section Facts

variable (k : Fin 3) (c : Dev nD)

/-- A call has eight points. -/
theorem pd_N : (Pipeline.pin (pcfgs (F := F)) adm k).N = 8 := by
  match k with
  | 0 => exact N_0
  | 1 => exact N_0
  | 2 => exact N_0
/-- What stands at a point. -/
theorem pd_inv (t : Fin ((Pipeline.pin (pcfgs (F := F)) adm k).N + 1)) : (pdats m k c).Φ t = inv m k c t.val := by
  match k with
  | 0 => rfl
  | 1 => rfl
  | 2 => rfl
/-- What is owed at a point. -/
theorem pd_owed (t : Fin ((Pipeline.pin (pcfgs (F := F)) adm k).N + 1)) : (pdats m k c).owed t = owedAt k c t.val := by
  match k with
  | 0 => rfl
  | 1 => rfl
  | 2 => rfl
/-- Nothing is left out of the record. -/
theorem pd_recorded : (pdats m k c).recorded 0 = Set.univ := by
  match k with
  | 0 => rfl
  | 1 => rfl
  | 2 => rfl
/-- A window holds its array in full. -/
theorem pd_share (w : Fin (Pipeline.pin (pcfgs (F := F)) adm k).W) : (pdats m k c).share w = fullShare := by
  refine (pdats m k c).share_full (fun w => ?_) w
  match k with
  | 0 => rfl
  | 1 => rfl
  | 2 => rfl
/-- The body does what a point must do. -/
theorem pd_body : Pipeline.BodyObligationLoose (pdats m k c) defs₀ 𝒱₀ () Set.univ := by
  match k with
  | 0 => exact (hbody0 m c).loose
  | 1 => exact (hbody1 m c).loose
  | 2 => exact (hbody2 m c).loose
/-- A window's array begins as the layer finds it. -/
theorem pd_start (w : Fin (Pipeline.pin (pcfgs (F := F)) adm k).W) :
    (pdats m k c).arrAt w 0 = Wat m k.val c (Proc.devRef .tc (Pipeline.arrRef (Pipeline.pin (pcfgs (F := F)) adm k).spec w)) := by
  match k with
  | 0 => rfl
  | 1 => rfl
  | 2 => rfl
/-- It ends as the layer leaves it. -/
theorem pd_final (w : Fin (Pipeline.pin (pcfgs (F := F)) adm k).W) :
    (pdats m k c).arrAt w (Pipeline.pin (pcfgs (F := F)) adm k).N
      = Wat m (k.val + 1) c (Proc.devRef .tc (Pipeline.arrRef (Pipeline.pin (pcfgs (F := F)) adm k).spec w)) := by
  match k with
  | 0 => exact final0 m c w
  | 1 => exact final1 m c w
  | 2 => exact final2 m c w

/-- The facts of a call's set-up: its staging buffers, its semaphores, its windows. -/
theorem kit : Pipeline.PLaunchFacts (nD := nD) (τ := τ) (pcfgs (F := F)) k := by
  match k with
  | 0 => exact launch0.toP
  | 1 => exact launch1.toP
  | 2 => exact launch2.toP

/-- A layer's own semaphores stage no window. -/
theorem own_facts : Pipeline.OwnSemFacts (pcfgs (F := F) k).spec (osem k) := by
  match k with
  | 0 => exact (by decide +kernel : Pipeline.OwnSemFacts spec0 (osem 0))
  | 1 => exact (by decide +kernel : Pipeline.OwnSemFacts spec1 (osem 1))
  | 2 => exact (by decide +kernel : Pipeline.OwnSemFacts spec2 (osem 2))

/-- A staging semaphore has no place in the protocol. -/
theorem staging_place (w : Fin (Pipeline.pin (pcfgs (F := F)) adm k).W) (s : Fin ((Pipeline.pin (pcfgs (F := F)) adm k).win w).nbuf) :
    place (.dma (((Pipeline.pin (pcfgs (F := F)) adm k).win w).sem s)) = none := by
  match k with
  | 0 => exact (by decide +kernel : ∀ (w : Fin 4) (s : Fin (cfg0.win w).nbuf), place (.dma ((cfg0.win w).sem s)) = none) w s
  | 1 => exact (by decide +kernel : ∀ (w : Fin 4) (s : Fin (cfg1.win w).nbuf), place (.dma ((cfg1.win w).sem s)) = none) w s
  | 2 => exact (by decide +kernel : ∀ (w : Fin 4) (s : Fin (cfg2.win w).nbuf), place (.dma ((cfg2.win w).sem s)) = none) w s

/-- The staging semaphores may be waited for whatever is owed. -/
theorem cut : Pipeline.LevelCutOwed (pcfgs (F := F)) adm (pdats m) () L lv k (fun _ => 0) where
  hι c w s := by rw [L_tc]; exact Finset.mem_singleton_self _
  hιb c w s := by unfold lv; dsimp only; rw [staging_place k w s]
  hD c t g i h := by
    rw [pd_owed] at h
    exact ((laterDue_above (by omega)).add (layerDue_above (by omega)) : Above 0 (owedAt k c t.val)) g i h

/-- The buffers a layer's windows do not name. -/
abbrev restOf : Finset (DevRef τ sig) := Pipeline.ucRefs τ sig \ Pipeline.arrRefs (τ := τ) (pcfgs (F := F) k).spec

/-- A call's arrays are buffers of the program, -/
theorem arr_sub : Pipeline.arrRefs (τ := τ) (pcfgs (F := F) k).spec ⊆ Pipeline.ucRefs τ sig := by
  match k with
  | 0 => exact Pipeline.arrRefs_sub_ucRefs spec0 (by decide)
  | 1 => exact Pipeline.arrRefs_sub_ucRefs spec1 (by decide)
  | 2 => exact Pipeline.arrRefs_sub_ucRefs spec2 (by decide)

/-- The buffer layer `k` writes. -/
def outRef : DevRef τ sig := match k with | 0 => main_v1 | 1 => main_v2 | 2 => main_v3

/-- its result among them. -/
theorem outRef_arr : outRef k ∈ Pipeline.arrRefs (τ := τ) (pcfgs (F := F) k).spec := by
  match k with
  | 0 => exact Finset.mem_map_of_mem _ (Finset.mem_image.mpr ⟨(3 : Fin 4), Finset.mem_univ _, (by decide : Pipeline.arrRef spec0 3 = _)⟩)
  | 1 => exact Finset.mem_map_of_mem _ (Finset.mem_image.mpr ⟨(3 : Fin 4), Finset.mem_univ _, (by decide : Pipeline.arrRef spec1 3 = _)⟩)
  | 2 => exact Finset.mem_map_of_mem _ (Finset.mem_image.mpr ⟨(3 : Fin 4), Finset.mem_univ _, (by decide : Pipeline.arrRef spec2 3 = _)⟩)

/-- A layer changes only its result. -/
theorem Wat_of (b : DevRef τ sig) (h : b ≠ outRef k) : Wat m (k.val + 1) c b = Wat m k.val c b := by
  match k, h with
  | 0, h => exact W1_of m c b h
  | 1, h => exact W2_of m c b h
  | 2, h => exact W3_of m c b h

/-- Which keep what they held. -/
theorem rest_same (b : DevRef τ sig) (hb : b ∈ restOf (F := F) k \ ∅) : Wat m (k.val + 1) c b = Wat m k.val c b :=
  Wat_of m k c b fun e => (Finset.mem_sdiff.mp (Finset.mem_sdiff.mp hb).1).2 (e ▸ outRef_arr k)

end Facts

set_option backward.isDefEq.respectTransparency.types false in
/-- Layer `k` as a region: entered with what the device brings to it, left with its barrier's counter at zero. -/
def reg (k : Fin 3) : Pipeline.RegionSeg (pcfgs (F := F)) adm (pdats m) () defs₀ 𝒱₀ L lv k :=
  Pipeline.RegionSeg.ofTalk (pcfgs (F := F)) adm (pdats m) () defs₀ 𝒱₀ L lv k (osem k) (own_facts k)
    ∅ (restOf (F := F) k) (Finset.empty_subset _) (kit k) (by match k with | 0 => rfl | 1 => rfl | 2 => rfl) (pd_body m k)
    (laterDue k) (layerDue k 0) (fun c => pd_owed m k c 0)
    (fun c => by rw [pd_owed, Fin.val_last, pd_N]; exact owedAt_end k c)
    (pd_recorded m k) (pd_share m k) (Wat m k.val) (Wat m (k.val + 1)) (rest_same m k)
    (ticket (Bk m) k) (fun c => semVal (barCell k c) 0) (admitted (Bk m) k) (fun c => semVal (barCell k c) 0)
    (open_layer (Bk m) k)
    (fun c => by rw [pd_inv]; exact inv_start m k c _)
    (fun c => by rw [pd_inv, Fin.val_last, pd_N]; exact inv_end m k c _)
    (fun c => by iintro H; imodintro; iexact H)
    (fun _ => 0) (cut m k)
    (fun c => bigSep (Finset.univ.erase k) (keeps m k.val c))
    (pd_start m k) (pd_final m k)

variable (k : Fin 3) (c : Dev nD)

/-- A layer changes nothing in the other layers' shares. -/
theorem keeps_next (k' : Fin 3) (h : k' ∈ Finset.univ.erase k) : keeps m k.val c k' = keeps m (k.val + 1) c k' := by
  have hne : k'.val ≠ k.val := fun e => (Finset.mem_erase.mp h).1 (Fin.ext e)
  unfold keeps
  by_cases hl : k'.val < k.val
  · rw [if_pos hl, if_pos (by omega)]
  · rw [if_neg hl, if_neg (by omega)]

/-- A layer starts from what stands before it, -/
theorem enter_reg : between m k.val c ⊢ (reg m k).pre c := by
  show _ ⊢ iprop(StableHlo.held (c.tc : Thread nD τ) (Pipeline.arrRefs (τ := τ) (pcfgs (F := F) k).spec) (Wat m k.val c) ∗ (∃ r, prngReg c r)
    ∗ (StableHlo.held (c.tc : Thread nD τ) (restOf (F := F) k) (Wat m k.val c) ∗ bigSep (Finset.univ.erase k) (keeps m k.val c))
    ∗ ticket (Bk m) k c ∗ ∃ Wd, owes (c : Thread nD τ) (laterDue k c + layerDue k 0 c) Wd)
  unfold between debt
  rw [StableHlo.held_sub_split (c.tc : Thread nD τ) (arr_sub (F := F) k) (Wat m k.val c), bigSep_univ_at _ k, dueFrom_split,
    show keeps m k.val c k = ticket (Bk m) k c from if_neg (Nat.lt_irrefl _)]
  iintro ⟨⟨Ha, Hr⟩, Hp, ⟨Ht, Hk⟩, HO⟩
  isplitl [Ha]; · iexact Ha
  isplitl [Hp]; · iexact Hp
  isplitl [Hr Hk]
  · isplitl [Hr] <;> iassumption
  isplitl [Ht] <;> iassumption

/-- and ends at what stands after it. -/
theorem leave_reg : (reg m k).post c ⊢ between m (k.val + 1) c := by
  show iprop(StableHlo.held (c.tc : Thread nD τ) (Pipeline.arrRefs (τ := τ) (pcfgs (F := F) k).spec) (Wat m (k.val + 1) c) ∗ (∃ r, prngReg c r)
    ∗ (StableHlo.held (c.tc : Thread nD τ) (restOf (F := F) k) (Wat m (k.val + 1) c) ∗ bigSep (Finset.univ.erase k) (keeps m k.val c))
    ∗ semVal (barCell k c) 0 ∗ ∃ Wd, owes (c : Thread nD τ) (laterDue k c) Wd) ⊢ _
  unfold between debt
  rw [StableHlo.held_sub_split (c.tc : Thread nD τ) (arr_sub (F := F) k) (Wat m (k.val + 1) c), bigSep_univ_at _ k, dueFrom_succ,
    show keeps m (k.val + 1) c k = semVal (barCell k c) 0 from if_pos (Nat.lt_succ_self _), bigSep_congr (keeps_next m k c)]
  iintro ⟨Ha, Hp, ⟨Hr, Hk⟩, Ht, HO⟩
  isplitl [Ha Hr]
  · isplitl [Ha] <;> iassumption
  isplitl [Hp]; · iexact Hp
  isplitl [Ht Hk]
  · isplitl [Ht] <;> iassumption
  iexact HO

end Cert.KernelIdeal.Tp

end
-- ==== Proof.Ideal.Fund.lean ====
/- The launch: every cell funded, the scoped ones dormant, and everything dealt to the devices. -/
module

public import proofs.«01_k».proof.Proof.Ideal.Segs

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## Cells and tokens -/

/-- A device's barrier cells. -/
def barEmb : Dev nD × Fin 3 ↪ GSem nD τ sig :=
  ⟨fun p => barCell p.2 p.1, fun _ _ h => Prod.ext (cellAt_inj h).1 (Sum.inl.inj (cellAt_inj h).2)⟩

/-- A layer's copy cells on a device. -/
abbrev Lane : Type := Bool × (Fin 8 × Fin 3)

/-- A copy semaphore's place, by layer and exchange. -/
def laneSite (q : Fin 3 × Lane) : Site := .inr (q.2.1, q.1, q.2.2)
/-- Different copy semaphores have different places. -/
theorem laneSite_inj : Function.Injective laneSite := fun a b h => by
  have h := Sum.inr.inj h
  exact Prod.ext (congrArg (fun x : Bool × Fin 3 × Fin 8 × Fin 3 => x.2.1) h)
    (Prod.ext (congrArg (fun x : Bool × Fin 3 × Fin 8 × Fin 3 => x.1) h) (congrArg (fun x : Bool × Fin 3 × Fin 8 × Fin 3 => x.2.2) h))

/-- The copy cells, by device, layer and exchange. -/
def laneEmb : (Dev nD × Fin 3) × Lane ↪ GSem nD τ sig :=
  ⟨fun q => cellAt q.1.1 (laneSite (q.1.2, q.2)), fun a b h => by
    have h1 := (cellAt_inj h).1
    have h2 := laneSite_inj (cellAt_inj h).2
    exact Prod.ext (Prod.ext h1 (congrArg (fun q : Fin 3 × Lane => q.1) h2)) (congrArg (fun q : Fin 3 × Lane => q.2) h2)⟩

/-- All barrier cells. -/
def barCells : Finset (GSem nD τ sig) := Finset.univ.map barEmb
/-- All copy cells. -/
def laneCells : Finset (GSem nD τ sig) := Finset.univ.map laneEmb

/-- No cell is both. -/
theorem cells_disjoint : Disjoint barCells laneCells := by
  rw [Finset.disjoint_left]
  intro g h₁ h₂
  obtain ⟨p, -, rfl⟩ := Finset.mem_map.mp h₁
  obtain ⟨q, -, h⟩ := Finset.mem_map.mp h₂
  exact absurd (cellAt_inj h).2 (by unfold laneSite; exact Sum.inr_ne_inl)

/-- Every cell of the protocol. -/
def cellEmb : Dev nD × Site ↪ GSem nD τ sig :=
  ⟨fun p => cellAt p.1 p.2, fun _ _ h => Prod.ext (cellAt_inj h).1 (cellAt_inj h).2⟩

/-- Every cell of the protocol is one or the other. -/
theorem cells_all : Finset.univ.map cellEmb ⊆ barCells ∪ laneCells := fun g hg => by
  obtain ⟨⟨c, x⟩, -, rfl⟩ := Finset.mem_map.mp hg
  match x with
  | .inl k => exact Finset.mem_union_left _ (Finset.mem_map_of_mem barEmb (Finset.mem_univ (c, k)))
  | .inr (b, k, x) => exact Finset.mem_union_right _ (Finset.mem_map_of_mem laneEmb (Finset.mem_univ ((c, k), b, x)))

/-- The duties of a layer's cells on a device: three at the barrier, one at each copy cell. -/
def dutyAt (k : Fin 3) : Fin 3 ⊕ Lane → Site × Fin 3
  | .inl s => (.inl k, s)
  | .inr q => (laneSite (k, q), 0)

/-- Different duties have different places. -/
theorem dutyAt_inj {k k' : Fin 3} {d d' : Fin 3 ⊕ Lane} (h : dutyAt k d = dutyAt k' d') : k = k' ∧ d = d' := by
  match d, d' with
  | .inl s, .inl s' => exact ⟨Sum.inl.inj (congrArg Prod.fst h), congrArg Sum.inl (congrArg Prod.snd h)⟩
  | .inl s, .inr q => exact absurd (congrArg Prod.fst h) (by unfold dutyAt laneSite; exact Sum.inl_ne_inr)
  | .inr q, .inl s => exact absurd (congrArg Prod.fst h) (by unfold dutyAt laneSite; exact Sum.inr_ne_inl)
  | .inr q, .inr q' =>
    have e := laneSite_inj (congrArg Prod.fst h : laneSite (k, q) = laneSite (k', q'))
    exact ⟨congrArg Prod.fst e, congrArg Sum.inr (congrArg Prod.snd e)⟩

/-- The duties' tokens, by device, layer and duty. -/
def tokEmb : (Dev nD × Fin 3) × (Fin 3 ⊕ Lane) ↪ GSem nD τ sig × ℕ × Fin 3 :=
  ⟨fun q => (cellAt q.1.1 (dutyAt q.1.2 q.2).1, 0, (dutyAt q.1.2 q.2).2), fun a b h => by
    obtain ⟨h1, h2⟩ := cellAt_inj (congrArg Prod.fst h)
    obtain ⟨h3, h4⟩ := dutyAt_inj (Prod.ext h2 (congrArg (fun t : GSem nD τ sig × ℕ × Fin 3 => t.2.2) h))
    exact Prod.ext (Prod.ext h1 h3) h4⟩

/-- All tokens at launch. -/
def launchToks : Finset (GSem nD τ sig × ℕ × Fin 3) := Finset.univ.map tokEmb

/-! ## What a device is dealt for a layer -/

section Deal

variable (c : Dev nD) (k : Fin 3)

/-- The tokens that open a device's copy cells of a layer. -/
def openToks : sProp 𝕄 := bigSep Finset.univ fun x : Fin 8 × Fin 3 => iprop(openTok ER (sendCell k x.1 x.2 c) ∗ openTok ER (recvCell k x.1 x.2 c))
/-- What a device may wait for in a layer: three signals at its barrier and one block at each receive cell. -/
def credits : sProp 𝕄 := iprop(cred (tallyAt (barCell k c) () 3) ∗ bigSep Finset.univ fun x : Fin 8 × Fin 3 => cred (tallyAt (recvCell k x.1 x.2 c) () N))
/-- The tokens of the duties the device pays. -/
def paid : sProp 𝕄 :=
  iprop((bigSep Finset.univ fun s : Fin 3 => dutyTok ER (barCell k (peer s c)) 0 s.rev)
    ∗ (bigSep Finset.univ fun x : Fin 8 × Fin 3 => dutyTok ER (sendCell k x.1 x.2 c) 0 0)
    ∗ bigSep Finset.univ fun x : Fin 8 × Fin 3 => dutyTok ER (recvCell k x.1 x.2 (peer x.2 c)) 0 0)
/-- The tokens of the duties its own cells take. -/
def taken : sProp 𝕄 :=
  iprop((bigSep Finset.univ fun s : Fin 3 => dutyTok ER (barCell k c) 0 s)
    ∗ (bigSep Finset.univ fun x : Fin 8 × Fin 3 => dutyTok ER (sendCell k x.1 x.2 c) 0 0)
    ∗ bigSep Finset.univ fun x : Fin 8 × Fin 3 => dutyTok ER (recvCell k x.1 x.2 c) 0 0)
/-- A device's share for a layer. -/
def dealt : sProp 𝕄 := iprop(atPos ER (barCell k c) 0 ∅ 0 ∗ openToks (F := F) c k ∗ credits (F := F) c k ∗ paid (F := F) c k)

end Deal

/-- The records every device may consult. -/
def records (B : Fin 3 → Fin 8 → Dev nD → Vec F S64x512 .bf16) (κ : GSem nD τ sig → ℕ) : sProp 𝕄 :=
  iprop(invs B κ ∗ bigSep Finset.univ fun p : Dev nD × Fin 3 => reached ER (barCell p.2 p.1) 0)

/-- The records may be read any number of times. -/
instance records_persistent (B : Fin 3 → Fin 8 → Dev nD → Vec F S64x512 .bf16) (κ : GSem nD τ sig → ℕ) : BI.Persistent (records B κ) := by
  unfold records; infer_instance

/-- Beside the token of a signal stands the record that the peer's barrier takes its first round. -/
theorem reached_at (k : Fin 3) (c : Dev nD) (s : Fin 3) :
    iprop((bigSep Finset.univ fun p : Dev nD × Fin 3 => (reached ER (barCell p.2 p.1) 0 : sProp 𝕄)) ∗ dutyTok ER (barCell k (peer s c)) 0 s.rev)
      ⊢ iprop(dutyTok ER (barCell k (peer s c)) 0 s.rev ∗ reached ER (barCell k (peer s c)) 0) := by
  iintro ⟨#HR, Ht⟩
  isplitl [Ht]; · iexact Ht
  iapply (show (bigSep Finset.univ fun p : Dev nD × Fin 3 => (reached ER (barCell p.2 p.1) 0 : sProp 𝕄)) ⊢ reached ER (barCell k (peer s c)) 0 from
    bigSep_elim (Finset.mem_univ ((peer s c, k) : Dev nD × Fin 3))) $$ HR

/-- The shares of a layer's copies, put together exchange by exchange. -/
theorem dormant_all (c : Dev nD) (k : Fin 3) :
    iprop(openToks (F := F) c k ∗ (bigSep Finset.univ fun x : Fin 8 × Fin 3 => dutyTok ER (sendCell k x.1 x.2 c) 0 0)
      ∗ (bigSep Finset.univ fun x : Fin 8 × Fin 3 => dutyTok ER (recvCell k x.1 x.2 (peer x.2 c)) 0 0)
      ∗ bigSep Finset.univ fun x : Fin 8 × Fin 3 => cred (tallyAt (recvCell k x.1 x.2 c) () N))
      ⊢ (bigSep Finset.univ fun x : Fin 8 × Fin 3 => dormant k c x : sProp 𝕄) := by
  unfold openToks dormant
  rw [bigSep_sep', bigSep_sep', bigSep_sep', bigSep_sep', bigSep_sep']
  iintro ⟨⟨H1, H2⟩, H3, H4, H5⟩
  isplitl [H1]; · iexact H1
  isplitl [H2]; · iexact H2
  isplitl [H3]; · iexact H3
  isplitl [H4] <;> iassumption

/-- The records and what a device is dealt are its ticket. -/
theorem ticket_intro (B : Fin 3 → Fin 8 → Dev nD → Vec F S64x512 .bf16) (κ : GSem nD τ sig → ℕ) (p : Dev nD × Fin 3) :
    iprop(records B κ ∗ dealt p.1 p.2) ⊢ ticket B p.2 p.1 := by
  obtain ⟨c, k⟩ := p
  unfold records dealt credits paid ticket gate
  iintro ⟨⟨#HI, #HR⟩, Hat, Hop, ⟨Hc, Hcs⟩, Htb, Hts, Htr⟩
  isplitr; · iexists κ; iexact HI
  isplitl [Hat Hc Htb]
  · isplitl [Hat]; · iexact Hat
    isplitl [Hc]; · iexact Hc
    iapply (bigSep_with_persistent (R := bigSep Finset.univ fun p : Dev nD × Fin 3 => (reached ER (barCell p.2 p.1) 0 : sProp 𝕄))
      (Φ := fun s : Fin 3 => dutyTok ER (barCell k (peer s c)) 0 s.rev) fun s _ => reached_at k c s)
    isplitr; · iexact HR
    iexact Htb
  iapply (dormant_all c k)
  isplitl [Hop]; · iexact Hop
  isplitl [Hts]; · iexact Hts
  isplitl [Htr] <;> iassumption

/-! ## The dealing -/

/-- A conjunction over two indices, written out. -/
theorem bigSep_two (Φ : Bool → sProp 𝕄) : bigSep Finset.univ Φ = iprop(Φ false ∗ Φ true) := by
  rw [bigSep_univ_eq_bigSepL [false, true] (by decide) (by decide)]; rfl

/-- A family over devices may be turned, each member its own way. -/
theorem turn {ι : Type} [Fintype ι] (e : ι → Dev nD ≃ Dev nD) (Φ : ι → Dev nD → sProp 𝕄) :
    (bigSep Finset.univ fun c : Dev nD => bigSep Finset.univ fun i : ι => Φ i c)
      = bigSep Finset.univ fun c : Dev nD => bigSep Finset.univ fun i : ι => Φ i (e i c) := by
  rw [BI.bigSep_univ_comm, bigSep_congr fun i _ => bigSep_univ_equiv (e i) (Φ i), BI.bigSep_univ_comm]

/-- The tokens of the barriers, dealt to those who take the signals, are those dealt to those who send them. -/
theorem turn_bar (k : Fin 3) :
    (bigSep Finset.univ fun c : Dev nD => bigSep Finset.univ fun s : Fin 3 => (dutyTok ER (barCell k c) 0 s : sProp 𝕄))
      = bigSep Finset.univ fun c : Dev nD => bigSep Finset.univ fun s : Fin 3 => dutyTok ER (barCell k (peer s c)) 0 s.rev := by
  rw [bigSep_congr fun c _ => bigSep_univ_equiv Fin.revPerm fun s : Fin 3 => (dutyTok ER (barCell k c) 0 s : sProp 𝕄)]
  exact turn around fun s c => dutyTok ER (barCell k c) 0 s.rev

/-- The tokens, from the devices whose cells take the duties to those that pay them. -/
theorem taken_paid : (bigSep Finset.univ fun p : Dev nD × Fin 3 => (taken p.1 p.2 : sProp 𝕄)) = bigSep Finset.univ fun p : Dev nD × Fin 3 => paid p.1 p.2 := by
  rw [bigSep_univ_prod, bigSep_univ_prod, BI.bigSep_univ_comm, BI.bigSep_univ_comm (fun c k => paid c k)]
  refine bigSep_congr fun k _ => ?_
  unfold taken paid
  rw [bigSep_sep', bigSep_sep', bigSep_sep', bigSep_sep', turn_bar,
    turn (fun x : Fin 8 × Fin 3 => around x.2) fun x c => (dutyTok ER (recvCell k x.1 x.2 c) 0 0 : sProp 𝕄)]
  rfl

/-- The tokens at launch, sorted by the device whose cells take the duties. -/
theorem toks_taken : bigSep launchToks (fun x => (dutyTok ER x.1 x.2.1 x.2.2 : sProp 𝕄)) = bigSep Finset.univ fun p : Dev nD × Fin 3 => taken p.1 p.2 := by
  unfold launchToks
  rw [bigSep_map, bigSep_univ_prod]
  refine bigSep_congr fun p _ => ?_
  rw [bigSep_univ_sum, bigSep_univ_prod (fun q : Lane => _), bigSep_two]
  rfl

/-- The opening tokens, sorted by device and layer. -/
theorem lanes_open : bigSep laneCells (fun g => (openTok ER g : sProp 𝕄)) = bigSep Finset.univ fun p : Dev nD × Fin 3 => openToks p.1 p.2 := by
  unfold laneCells
  rw [bigSep_map, bigSep_univ_prod]
  refine bigSep_congr fun p _ => ?_
  rw [bigSep_univ_prod, bigSep_two]
  unfold openToks
  rw [bigSep_sep']
  rfl

/-! ## The launch credit -/

/-- One cell's part of a tally, as an additive map. -/
def atCell (g : GSem nD τ sig) : CellTallies nD τ sig Unit →+ ℕ where
  toFun O := O g ()
  map_zero' := rfl
  map_add' _ _ := rfl

/-- What one due puts at one cell. -/
theorem atCell_tally (c d : Dev nD) (x y : Site) (n : ℕ) : atCell (cellAt c x) (tallyAt (cellAt d y) () n) = if c = d then (if x = y then n else 0) else 0 := by
  show tallyAt (cellAt d y) () n (cellAt c x) () = _
  rw [tallyAt_apply]
  by_cases h : c = d
  · by_cases h' : x = y
    · rw [if_pos ⟨by rw [h, h'], rfl⟩, if_pos h, if_pos h']
    · rw [if_neg (fun e => h' (cellAt_inj e.1).2), if_pos h, if_neg h']
  · rw [if_neg (fun e => h (cellAt_inj e.1).1), if_neg h]

/-- Over all devices, what is paid around the mesh to a cell. -/
theorem atCell_around (s : Fin 3) (c : Dev nD) (x y : Site) (n : ℕ) :
    ∑ d : Dev nD, atCell (cellAt c x) (tallyAt (cellAt (peer s d) y) () n) = if x = y then n else 0 := by
  rw [show (∑ d : Dev nD, atCell (cellAt c x) (tallyAt (cellAt (peer s d) y) () n)) = ∑ d : Dev nD, atCell (cellAt c x) (tallyAt (cellAt d y) () n) from
    (around s).sum_comp fun d => atCell (cellAt c x) (tallyAt (cellAt d y) () n)]
  simp only [atCell_tally, Finset.sum_ite_eq, Finset.mem_univ, if_true]

/-- What all devices together owe to a device's cell: a block if it is a receive cell, three signals if it is a barrier. -/
theorem owed_total (c : Dev nD) (x : Site) :
    ∑ d : Dev nD, atCell (cellAt c x) (dueFrom 0 d)
      = ∑ k : Fin 3, ((∑ j : Fin 8, ∑ s : Fin 3, if x = .inr (true, k, j, s) then N else 0) + ∑ s : Fin 3, if x = .inl k then 1 else 0) := by
  simp only [dueFrom, layerDue, chunksDue, copyDue, entryDue, Nat.zero_le, Finset.filter_true, if_true, map_sum, map_add]
  rw [Finset.sum_comm]
  refine Finset.sum_congr rfl fun k _ => ?_
  rw [Finset.sum_add_distrib]
  refine congrArg₂ (· + ·) ?_ ?_
  · rw [Finset.sum_comm]
    refine Finset.sum_congr rfl fun j _ => ?_
    rw [Finset.sum_comm]
    exact Finset.sum_congr rfl fun s _ => atCell_around s c x _ N
  · rw [Finset.sum_comm]
    exact Finset.sum_congr rfl fun s _ => atCell_around s c x _ 1

/-- All devices together owe a barrier three signals, -/
theorem owed_bar (c : Dev nD) (k : Fin 3) : ∑ d : Dev nD, dueFrom 0 d (barCell k c) () = 3 := by
  refine (owed_total c (.inl k)).trans ?_
  simp [Finset.sum_add_distrib]

/-- and a receive cell one block. -/
theorem owed_recv (c : Dev nD) (k : Fin 3) (x : Fin 8 × Fin 3) : ∑ d : Dev nD, dueFrom 0 d (recvCell k x.1 x.2 c) () = N := by
  refine (owed_total c (.inr (true, k, x.1, x.2))).trans ?_
  obtain ⟨j, s⟩ := x
  rw [Finset.sum_eq_single k (fun k' _ h => by simp [Ne.symm h]) (fun h => absurd (Finset.mem_univ _) h),
    Finset.sum_eq_single j (fun j' _ h => by simp [Ne.symm h]) (fun h => absurd (Finset.mem_univ _) h),
    Finset.sum_eq_single s (fun s' _ h => by simp [Ne.symm h]) (fun h => absurd (Finset.mem_univ _) h)]
  simp

/-- A cell's launch credit, from what is owed it. -/
theorem launch_cell (g : GSem nD τ sig) (n : ℕ) (h : ∑ d : Dev nD, dueFrom 0 d g () = n) :
    tallyOn g (launchCredit (Pipeline.owing (dueFrom 0)) 0 g) = (tallyAt g () n : CellTallies nD τ sig Unit) := by
  unfold tallyAt; refine congrArg _ (Finsupp.ext fun u => ?_); cases u
  rw [Pipeline.launchCredit_owing, Finsupp.single_eq_same, h]

/-- A device's semaphores, by their places. -/
def siteEmb : Site ↪ SemLoc sig := ⟨semOf, semOf_inj⟩

/-- The launch's credit at the barriers is three signals each, -/
theorem creds_bar (c : Dev nD) :
    (bigSep Finset.univ fun k : Fin 3 => (cred (tallyOn ((c : Thread nD τ), siteEmb (.inl k)) (launchCredit (Pipeline.owing (dueFrom 0)) 0 ((c : Thread nD τ), siteEmb (.inl k)))) : sProp 𝕄))
      = bigSep Finset.univ fun k : Fin 3 => cred (tallyAt (barCell k c) () 3) :=
  bigSep_congr fun k _ => congrArg cred (launch_cell (barCell k c) _ (owed_bar c k))

/-- at the receive cells one block each. -/
theorem creds_recv (c : Dev nD) :
    (bigSep Finset.univ fun b : Fin 3 × Fin 8 × Fin 3 =>
        (cred (tallyOn ((c : Thread nD τ), siteEmb (.inr (true, b))) (launchCredit (Pipeline.owing (dueFrom 0)) 0 ((c : Thread nD τ), siteEmb (.inr (true, b))))) : sProp 𝕄))
      = bigSep Finset.univ fun k : Fin 3 => bigSep Finset.univ fun x : Fin 8 × Fin 3 => cred (tallyAt (recvCell k x.1 x.2 c) () N) :=
  (bigSep_univ_prod _).trans (bigSep_congr fun k _ => bigSep_congr fun x _ => congrArg cred (launch_cell (recvCell k x.1 x.2 c) _ (owed_recv c k x)))

/-- So the launch's credit covers every layer's. -/
theorem creds (c : Dev nD) : (Pipeline.launchCred (dueFrom 0) c : sProp 𝕄) ⊢ bigSep Finset.univ fun k : Fin 3 => credits c k := by
  unfold Pipeline.launchCred
  refine (bigSep_subset (Finset.subset_univ (Finset.univ.map siteEmb))).trans ?_
  rw [bigSep_map, bigSep_univ_sum, bigSep_univ_prod (fun q : Bool × Fin 3 × Fin 8 × Fin 3 => _), bigSep_two, creds_bar, creds_recv]
  unfold credits
  rw [bigSep_sep']
  show (iprop(_ ∗ _ ∗ _) : sProp 𝕄) ⊢ (iprop(_ ∗ _) : sProp 𝕄)
  iintro ⟨Hb, -, Hr⟩
  isplitl [Hb] <;> iassumption

/-! ## The unscoped semaphores -/

/-- The semaphores that outlive the calls are the three barriers. -/
theorem unscoped_bar : (Finset.univ.filter fun sm : SemLoc sig => ¬ sm.isScoped .tc) = Finset.univ.map ⟨fun k : Fin 3 => semOf (.inl k), fun _ _ h => Sum.inl.inj (semOf_inj h)⟩ := by
  decide +kernel

/-- At launch they are at zero. -/
theorem bars_zero (c : Dev nD) : (unscopedSems0 c : sProp 𝕄) = bigSep Finset.univ fun k : Fin 3 => semVal (barCell k c) 0 := by
  unfold unscopedSems0
  rw [unscoped_bar, bigSep_map]
  rfl

end Cert.KernelIdeal.Tp

end
-- ==== Proof.Ideal.Main.lean ====
/- The run: the launch, the three layers, and what the final memory holds. -/
module

public import proofs.«01_k».proof.Proof.Ideal.Fund

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The launch element. -/
def u₀ : UU :=
  (initOf (Pipeline.cells (Pipeline.pin (pcfgs (F := F)) adm) cellOf_inj) (Pipeline.launchToks (Pipeline.pin (pcfgs (F := F)) adm) cellOf_inj),
    launchOf barCells laneCells launchToks)

/-- A resource kept by the first device until it is dealt. -/
def atFirst (X : sProp 𝕄) (c : Dev nD) : sProp 𝕄 := if c = 0 then X else iprop(emp)

/-- What the first device keeps is all there is. -/
theorem bigSep_atFirst (X : sProp 𝕄) : bigSep Finset.univ (atFirst X) = X := by
  rw [bigSep_univ_at _ (0 : Dev nD), bigSep_congr (s := Finset.univ.erase (0 : Dev nD)) (Ψ := fun _ => (BI.emp : sProp 𝕄))
      fun c hc => by unfold atFirst; rw [if_neg (Finset.ne_of_mem_erase hc)]; rfl, BI.bigSep_emp_const]
  unfold atFirst; rw [if_pos rfl]
  exact BI.equiv_iff.mp sep_emp

/-- The protocol's launch element. -/
def fund : sProp 𝕄 := BI.own (ER (launchOf barCells laneCells launchToks))

/-- What a core brings to the launch besides the protocol's element. -/
def bundle (c : Dev nD) : sProp 𝕄 :=
  iprop(StableHlo.held (c : Thread nD τ) (Pipeline.ucRefs τ sig) (W0 m c) ∗ (∃ r, prngReg c r) ∗ debt c (dueFrom 0 c))

/-- Before the first layer a device has its buffers and its three shares. -/
theorem between_intro (c : Dev nD) :
    iprop(bundle m c ∗ bigSep Finset.univ fun k : Fin 3 => ticket (Bk m) k c) ⊢ between m 0 c := by
  unfold bundle between
  rw [show (keeps m 0 c) = fun k => ticket (Bk m) k c from funext fun k => if_neg (Nat.not_lt_zero _)]
  iintro ⟨⟨Hh, Hp, HO⟩, Ht⟩
  isplitl [Hh]; · iexact Hh
  isplitl [Hp]; · iexact Hp
  isplitl [Ht] <;> iassumption

/-- A core's launch holdings, sorted. -/
theorem core_split (c : Dev nD) :
    iprop(unscopedBufs c (fun b => m ((c : Thread nD τ).loc b)) ∗ unscopedSems0 c
        ∗ owes (c : Thread nD τ) (dueFrom 0 c) ∅ ∗ Pipeline.launchCred (dueFrom 0) c ∗ prngReg c (ρ c) ∗ atFirst fund c)
      ⊢ (iprop(bundle m c ∗ (bigSep Finset.univ fun k : Fin 3 => semVal (barCell k c) 0)
          ∗ (bigSep Finset.univ fun k : Fin 3 => credits c k) ∗ atFirst fund c) : sProp 𝕄) := by
  rw [show unscopedBufs c (fun b => m ((c : Thread nD τ).loc b)) = StableHlo.held (c : Thread nD τ) (Pipeline.ucRefs τ sig) (W0 m c) from
    Pipeline.unscopedBufs_held c (W0 m c), bars_zero]
  unfold bundle debt
  iintro ⟨Hh, Hs, HO, Hcr, Hp, HG⟩
  isplitl [Hh HO Hp]
  · isplitl [Hh]; · iexact Hh
    isplitl [Hp]; · iexists (ρ c); iexact Hp
    iexists ∅; iexact HO
  isplitl [Hs]; · iexact Hs
  isplitl [Hcr]; · iapply (creds c) $$ Hcr
  iexact HG

/-- Something said of all barriers is said of each device and layer. -/
theorem bars_split (Φ : GSem nD τ sig → sProp 𝕄) : bigSep barCells Φ = bigSep Finset.univ fun p : Dev nD × Fin 3 => Φ (barCell p.2 p.1) := by
  unfold barCells; exact bigSep_map barEmb

/-- The cells' invariants, put together. -/
theorem all_cells (κ : GSem nD τ sig → ℕ) : (bigSep (barCells ∪ laneCells) fun g => (cellInv ER (sched (Bk m)) (κ g) g : sProp 𝕄)) ⊢ invs (Bk m) κ := by
  refine (bigSep_subset cells_all).trans ?_
  unfold invs
  exact Entails.of_eq (bigSep_map cellEmb)

/-- What the launch deals makes every device's state before the first layer. -/
theorem init :
    iprop((bigSep Finset.univ fun c : Dev nD => iprop(unscopedBufs c (fun b => m ((c : Thread nD τ).loc b)) ∗ unscopedSems0 c
          ∗ owes (c : Thread nD τ) (dueFrom 0 c) ∅ ∗ Pipeline.launchCred (dueFrom 0) c ∗ prngReg c (ρ c) ∗ atFirst fund c)) ∗ levAts L lv)
      ⊢ (|={Set.univ}=> bigSep Finset.univ (between m 0) : sProp 𝕄) := by
  iintro ⟨H, -⟩
  ihave H' := (show (bigSep Finset.univ fun c : Dev nD => iprop(unscopedBufs c (fun b => m ((c : Thread nD τ).loc b)) ∗ unscopedSems0 c
          ∗ owes (c : Thread nD τ) (dueFrom 0 c) ∅ ∗ Pipeline.launchCred (dueFrom 0) c ∗ prngReg c (ρ c) ∗ atFirst fund c))
      ⊢ (bigSep Finset.univ fun c : Dev nD => iprop(bundle m c ∗ (bigSep Finset.univ fun k : Fin 3 => semVal (barCell k c) 0)
          ∗ (bigSep Finset.univ fun k : Fin 3 => credits c k) ∗ atFirst fund c) : sProp 𝕄) from bigSep_mono fun c _ => core_split m ρ c) $$ H
  ihave H2 := (Entails.of_eq (bigSep_sep' _ _ _)) $$ H'; icases H2 with ⟨HB, H3⟩
  ihave H4 := (Entails.of_eq (bigSep_sep' _ _ _)) $$ H3; icases H4 with ⟨Hv, H5⟩
  ihave H6 := (Entails.of_eq (bigSep_sep' _ _ _)) $$ H5; icases H6 with ⟨Hc, HG⟩
  ihave Hu := (Entails.of_eq (bigSep_atFirst (F := F) fund)) $$ HG
  unfold fund
  imod (Rounds.fund_launch ER (sched (Bk m)) cells_disjoint (fun g _ h => h) launchToks) $$ [Hv Hu] with ⟨%κ, -, #Hinv, #Hr, Hat, Hopen, Htok⟩
  · isplitl [Hv]
    · iapply (Entails.of_eq ((bars_split (F := F) fun g => semVal g 0).trans (bigSep_univ_prod _)).symm) $$ Hv
    · iexact Hu
  imodintro
  iapply (show iprop((bigSep Finset.univ fun c : Dev nD => bundle m c) ∗ bigSep Finset.univ fun p : Dev nD × Fin 3 => ticket (Bk m) p.2 p.1) ⊢ bigSep Finset.univ (between m 0) from by
    rw [bigSep_univ_prod, ← bigSep_sep']
    exact bigSep_mono fun c _ => between_intro m c)
  isplitl [HB]; · iexact HB
  iapply (bigSep_with_persistent (R := records (Bk m) κ) (Φ := fun p : Dev nD × Fin 3 => dealt p.1 p.2) fun p _ => ticket_intro (Bk m) κ p)
  isplitr
  · unfold records
    isplitr
    · iapply (all_cells m κ) $$ Hinv
    · iapply (Entails.of_eq (bars_split (F := F) fun g => reached ER g 0)) $$ Hr
  unfold dealt
  rw [bigSep_sep', bigSep_sep', bigSep_sep']
  isplitl [Hat]
  · iapply (Entails.of_eq (bars_split (F := F) fun g => atPos ER g 0 ∅ 0)) $$ Hat
  isplitl [Hopen]
  · iapply (Entails.of_eq (lanes_open (F := F))) $$ Hopen
  isplitl [Hc]
  · iapply (Entails.of_eq (bigSep_univ_prod fun p : Dev nD × Fin 3 => credits (F := F) p.1 p.2).symm) $$ Hc
  iapply (Entails.of_eq (taken_paid (F := F)))
  iapply (Entails.of_eq (toks_taken (F := F))) $$ Htok

/-- What stands after the last layer. -/
def ending (c : Dev nD) : sProp 𝕄 :=
  iprop(StableHlo.held (c : Thread nD τ) (Pipeline.ucRefs τ sig) (W3 m c) ∗ bigSep Finset.univ fun k : Fin 3 => semVal (barCell k c) 0)

/-- After the last layer nothing is owed any more. -/
theorem between_end (c : Dev nD) : between m 3 c ⊢ iprop(ending m c ∗ ∃ W, owes (c.tc : Thread nD τ) (0 : CellTallies nD τ sig Unit) W) := by
  unfold between ending debt
  rw [show (keeps m 3 c) = fun k => semVal (barCell k c) 0 from funext fun k => if_pos k.isLt, dueFrom_end]
  iintro ⟨Hh, -, Hk, HO⟩
  isplitr [HO]
  · isplitl [Hh]; · iexact Hh
    iexact Hk
  iexact HO

/-- The barriers at zero are so in the memory. -/
theorem bars_read (c : Dev nD) (s' : Phys nD τ sig (Elt F)) :
    iprop((bigSep Finset.univ fun k : Fin 3 => semVal (barCell k c) 0) ∗ SI s') ⊢ (iprop(⌜∀ k : Fin 3, s'.mem.sem (barCell k c) = 0⌝ ∗ SI s') : sProp 𝕄) := by
  rw [bigSep_univ_eq_bigSepL [(0 : Fin 3), 1, 2] (by decide) (by decide)]
  show iprop((semVal (barCell 0 c) 0 ∗ semVal (barCell 1 c) 0 ∗ semVal (barCell 2 c) 0) ∗ SI s') ⊢ _
  iintro ⟨⟨H0, H1, H2⟩, HSI⟩
  icombine HSI H0 gives %h0
  icombine HSI H1 gives %h1
  icombine HSI H2 gives %h2
  isplitr
  · ipureintro
    intro k
    match k with
    | 0 => simpa using h0
    | 1 => simpa using h1
    | 2 => simpa using h2
  iexact HSI

/-- A semaphore that outlives the calls is one of the three barriers. -/
theorem bars_only (sm : SemLoc sig) (h : sm.isScoped .tc = false) : ∃ k : Fin 3, sm = semOf (.inl k) := by
  have hm : sm ∈ Finset.univ.filter fun sm : SemLoc sig => ¬ sm.isScoped .tc := by simp [h]
  rw [unscoped_bar] at hm
  obtain ⟨k, -, e⟩ := Finset.mem_map.mp hm
  exact ⟨k, e.symm⟩

set_option backward.isDefEq.respectTransparency.types false in
/-- From any memory with zero counters the program ends, every unscoped buffer holding what the three layers leave in it, every
    counter at zero. -/
theorem run_main : θ_run (defs (F := F)) (onTc (τ := τ) (main (F := F))) ⟨m, fun _ => 0, ρ⟩
    (fun r => (∀ c : Dev nD, ∀ b ∈ Pipeline.ucRefs τ sig, r.2.mem (c, b) = W3 m c b) ∧ r.2.sem = fun _ => 0) :=
  Pipeline.θ_run_regions_kit_sems (pcfgs (F := F)) adm (pdats m) () cellOf_inj EP defs₀ 𝒱₀ L lv m ρ main
    [.region (reg m 0), .region (reg m 1), .region (reg m 2)]
    (fun c Q => by rw [main_segs adm (pdats m) () 𝒱₀ L lv (reg m 0) (reg m 1) (reg m 2) c])
    (by simp only [Pipeline.Seg.pipes_region, Pipeline.Seg.pipes_nil]; decide)
    (O₀ := dueFrom 0) (hL := L_of_ne) (G := atFirst fund) (u₀ := u₀ (F := F))
    (hu₀ := by
      unfold u₀
      iintro Hu
      ihave H := (ownU_pair _ _) $$ Hu
      icases H with ⟨HP, HX⟩
      imodintro
      isplitl [HP]; · iexact HP
      rw [bigSep_atFirst]; unfold fund; iexact HX)
    (T₀ := between m 0) (Tₙ := ending m)
    (hch := ⟨fun c => enter_reg m 0 c, fun c => (leave_reg m 0 c).trans (enter_reg m 1 c), fun c => (leave_reg m 1 c).trans (enter_reg m 2 c),
      fun c => (leave_reg m 2 c).trans (between_end m c)⟩)
    (hinit := init m ρ)
    (QY := fun c s => (∀ b ∈ Pipeline.ucRefs τ sig, s.mem (c, b) = W3 m c b) ∧ ∀ k : Fin 3, s.sem (barCell k c) = 0)
    (hfin := fun c s' => by
      unfold ending
      iintro ⟨⟨Hh, Hb⟩, HSI⟩
      unfold StableHlo.held
      ihave H := (pointsTo_read_all (Pipeline.ucRefs τ sig) (fun b => ((c : Thread nD τ).1, b)) (W3 m c) s') $$ [Hh HSI]
      · isplitl [Hh] <;> iassumption
      icases H with ⟨%hh, HSI⟩
      ihave H := (bars_read (F := F) c s') $$ [Hb HSI]
      · isplitl [Hb] <;> iassumption
      icases H with ⟨%hb, HSI⟩
      imodintro
      isplitr
      · ipureintro; exact ⟨hh, hb⟩
      iexact HSI)
    (hQ := fun s h hs => ⟨fun c => (h c).1, sem_eq_zero hs fun c sm hsm => by
      obtain ⟨k, rfl⟩ := bars_only sm hsm
      exact (h c).2 k⟩)

end Cert.KernelIdeal.Tp

end
-- ==== Proof.Ideal.Frame.lean ====
/- The run read at the result and at the arguments. -/
module

public import proofs.«01_k».proof.Proof.Ideal.Main

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- A buffer that is no layer's result holds at the end what it held at launch. -/
theorem W3_same (c : Dev nD) (b : Ref sig .tc) (h : b ≠ main_v1 ∧ b ≠ main_v2 ∧ b ≠ main_v3) :
    W3 m c (Proc.devRef .tc b) = m ((c : Thread nD τ).loc b) :=
  have ne {b' : Ref sig .tc} (h : b ≠ b') : (Proc.devRef .tc b : DevRef τ sig) ≠ Proc.devRef .tc b' := fun e => h (Proc.devRef_injective .tc e)
  (W3_of m c _ (ne h.2.2)).trans ((W2_of m c _ (ne h.2.1)).trans (W1_of m c _ (ne h.1)))

/-- Such a buffer, unscoped, is unchanged by the run. -/
theorem same (r : PUnit × MemSt nD τ sig (Elt F)) (c : Dev nD) (h : ∀ c : Dev nD, ∀ b ∈ Pipeline.ucRefs τ sig, r.2.mem (c, b) = W3 m c b)
    (b : Ref sig .tc) (hb : (Proc.devRef .tc b : DevRef τ sig) ∈ Pipeline.ucRefs τ sig) (hn : b ≠ main_v1 ∧ b ≠ main_v2 ∧ b ≠ main_v3) :
    r.2.mem ((c.tc : Thread nD τ).loc b) = m ((c.tc : Thread nD τ).loc b) :=
  (h c _ hb).trans (W3_same m c b hn)

/-- The program ends with the third layer's result in its result buffer, its arguments unchanged, every counter at zero. -/
theorem run_args : θ_run (defs (F := F)) (onTc (τ := τ) (main (F := F))) ⟨m, fun _ => 0, ρ⟩
    (fun r => (∀ c : Dev nD, r.2.mem ((c.tc : Thread nD τ).loc main_v3) = out2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run (defs (F := F)) _ _).mono (fun r h => ⟨fun c => ⟨(h.1 c main_v3 (by decide)).trans (W3_out m c), same m r c h.1 main_arg0 (by decide) (by decide), same m r c h.1 main_arg1 (by decide) (by decide), same m r c h.1 main_arg2 (by decide) (by decide), same m r c h.1 main_arg3 (by decide) (by decide), same m r c h.1 main_arg4 (by decide) (by decide), same m r c h.1 main_arg5 (by decide) (by decide), same m r c h.1 main_arg6 (by decide) (by decide)⟩, h.2⟩) (run_main m ρ)

end Cert.KernelIdeal.Tp

end
-- ==== Proof.Ideal.Value.lean ====
/- The value, over the extended reals: each layer's result on a device is that device's columns of the plain layer.
   The kernel adds up each contraction block by block (the four devices' columns of the input, the eight chunks of the hidden
   width); the plain layer adds it up whole. Only the order of the sums differs. -/
module

public import proofs.«01_k».proof.Proof.Ideal.Frame
public import proofs.«01_k».proof.Proof.Gen.ReferenceIdeal.Run
public import Idealize.ShloMosaic.Lib.Layout
public import Idealize.ShloMosaic.Lib.MatmulPlain
public import Idealize.ShloMosaic.Lib.StackMember

@[expose] public section

set_option maxRecDepth 16384

noncomputable section

namespace Cert.KernelIdeal.Tp

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

open Idealize.ShloMosaic.ValueIdx
open scoped BigOperators

/-! ## A sum by blocks -/

/-- A sum over `n` blocks of `b` terms each is the sum over all of them. -/
theorem sum_blocks (n b N : ℕ) (hN : n * b = N) (f : Fin N → EReal) (at' : Fin n → Fin b → Fin N)
    (hat : ∀ x y, (at' x y).val = x.val * b + y.val) : ∑ x : Fin n, ∑ y : Fin b, f (at' x y) = ∑ z : Fin N, f z := by
  subst hN
  rw [← Equiv.sum_comp finProdFinEquiv f, Fintype.sum_prod_type]
  refine Finset.sum_congr rfl fun x _ => Finset.sum_congr rfl fun y _ => congrArg f (Fin.ext ?_)
  rw [hat]
  show _ = y.val + b * x.val
  rw [Nat.mul_comm b, Nat.add_comm]

/-- Column `k` of device `d`'s part of a width of 8192. -/
def atDev (d : Dev nD) (k : Fin 2048) : Fin 8192 := ⟨d.val * 2048 + k.val, by have h : d.val < 4 := d.isLt; have := k.isLt; omega⟩
/-- Position `l` of chunk `j` of a width of 4096. -/
def atChunk (j : Fin 8) (l : Fin 512) : Fin 4096 := ⟨512 * j.val + l.val, by have := j.isLt; have := l.isLt; omega⟩

/-- A sum by the four devices' columns is the sum over all 8192. -/
theorem sum_dev (f : Fin 8192 → EReal) : ∑ d : Dev nD, ∑ k : Fin 2048, f (atDev d k) = ∑ z : Fin 8192, f z :=
  sum_blocks 4 2048 8192 rfl f atDev fun _ _ => rfl
/-- A sum by the eight chunks is the sum over all 4096. -/
theorem sum_chunk (f : Fin 4096 → EReal) : ∑ j : Fin 8, ∑ l : Fin 512, f (atChunk j l) = ∑ z : Fin 4096, f z :=
  sum_blocks 8 512 4096 rfl f atChunk fun x _ => congrArg (· + _) (Nat.mul_comm 512 x.val)

/-- A device's own term and its three peers' are the four devices'. -/
theorem sum_peers (f : Dev nD → EReal) (c : Dev nD) :
    f c + f (peer (Fin.rev 0) c) + f (peer (Fin.rev 1) c) + f (peer (Fin.rev 2) c) = ∑ d : Dev nD, f d := by
  have hu : ∀ c : Dev nD, (Finset.univ : Finset (Dev nD)) = {c, peer (Fin.rev 0) c, peer (Fin.rev 1) c, peer (Fin.rev 2) c} := by decide
  have hn : ∀ c : Dev nD, c ∉ ({peer (Fin.rev 0) c, peer (Fin.rev 1) c, peer (Fin.rev 2) c} : Finset (Dev nD))
      ∧ peer (Fin.rev 0) c ∉ ({peer (Fin.rev 1) c, peer (Fin.rev 2) c} : Finset (Dev nD))
      ∧ peer (Fin.rev 1) c ∉ ({peer (Fin.rev 2) c} : Finset (Dev nD)) := by decide
  rw [hu c, Finset.sum_insert (hn c).1, Finset.sum_insert (hn c).2.1, Finset.sum_insert (hn c).2.2, Finset.sum_singleton]
  simp only [add_assoc]

/-! ## The kernel's payloads, entry by entry -/

/-- A product onto zero, entry by entry. -/
theorem dot_zero {M K N : ℕ} {φ₁ φ₂ : FTy} (a : FVec Ideal ⟨2, ![M, K]⟩ φ₁) (b : FVec Ideal ⟨2, ![K, N]⟩ φ₂) (r : Fin M) (q : Fin N) :
    matmul (DotDims.plain M K N) none a b (constant ⟨2, ![M, N]⟩ .f32 0x00000000#32) (ix2 r q) = ∑ k : Fin K, a (ix2 r k) * b (ix2 k q) := by
  refine (Ideal.matmul_plain_apply none a b _ r q).trans ?_
  show Ideal.ofBits .f32 0x00000000#32 + _ = _
  rw [Ideal.ofBits_zero_f32, zero_add]

/-- An entry of a device's product in the first layer, -/
theorem part_first (x : FVec Ideal S64x2048 .bf16) (w : FVec Ideal S2048x512 .bf16) (r : Fin 64) (l : Fin 512) :
    k0_pay2 (F := Ideal) x w (ix2 r l) = ∑ k : Fin 2048, x (ix2 r k) * w (ix2 k l) := by
  unfold k0_pay2
  rw [shapeCast_self, shapeCast_self]
  exact dot_zero x w r l
/-- in the second, -/
theorem part_second (x : FVec Ideal S64x2048 .f32) (w : FVec Ideal S2048x512 .bf16) (r : Fin 64) (l : Fin 512) :
    k1_pay2 (F := Ideal) x w (ix2 r l) = ∑ k : Fin 2048, x (ix2 r k) * w (ix2 k l) := by
  unfold k1_pay2
  rw [shapeCast_self, shapeCast_self]
  exact dot_zero (truncf .bf16 x bitsLt_bf16_f32) w r l
/-- and in the third. -/
theorem part_third (x : FVec Ideal S64x2048 .f32) (w : FVec Ideal S2048x512 .bf16) (r : Fin 64) (l : Fin 512) :
    k2_pay2 (F := Ideal) x w (ix2 r l) = ∑ k : Fin 2048, x (ix2 r k) * w (ix2 k l) := part_second x w r l

/-- One chunk's step: the old entry plus the rectified sum of the four products times the second weight's block. -/
theorem step_entry (p a₀ a₁ a₂ : FVec Ideal S64x512 .f32) (o : FVec Ideal S64x2048 .f32) (w : FVec Ideal S512x2048 .bf16) (r : Fin 64) (q : Fin 2048) :
    stepOut p (sent a₀) (sent a₁) (sent a₂) o w (ix2 r q)
      = o (ix2 r q) + ∑ l : Fin 512, max (p (ix2 r l) + a₀ (ix2 r l) + a₁ (ix2 r l) + a₂ (ix2 r l)) 0 * w (ix2 l q) := by
  unfold stepOut k0_pay6
  rw [shapeCast_self, shapeCast_self]
  refine congrArg (o (ix2 r q) + ·) ((dot_zero (M := 64) (K := 512) (N := 2048) _ w r q).trans (Finset.sum_congr rfl fun l _ => congrArg (· * w (ix2 l q)) ?_))
  show max (p (ix2 r l) + a₀ (ix2 r l) + a₁ (ix2 r l) + a₂ (ix2 r l)) (Ideal.ofBits .f32 0x00000000#32) = _
  rw [Ideal.ofBits_zero_f32]

/-- A layer's result after `n` chunks, entry by entry. -/
theorem acc_entry (p : Fin 8 → Dev nD → FVec Ideal S64x512 .f32) (w : Fin 8 → Dev nD → Vec Ideal S512x2048 .bf16) (c : Dev nD) (r : Fin 64) (q : Fin 2048)
    (n : ℕ) : acc p w c n (ix2 r q)
      = ∑ s ∈ Finset.range n, if h : s < 8 then ∑ l : Fin 512, max (∑ d : Dev nD, p ⟨s, h⟩ d (ix2 r l)) 0 * w ⟨s, h⟩ c (ix2 l q) else 0 := by
  induction n with
  | zero =>
    rw [Finset.range_zero, Finset.sum_empty]
    show Ideal.ofBits .f32 0x00000000#32 = 0
    exact Ideal.ofBits_zero_f32
  | succ n ih =>
    rw [Finset.sum_range_succ, ← ih]
    by_cases h : n < 8
    · rw [dif_pos h, acc_step p w c ⟨n, h⟩, step_entry]
      refine congrArg (acc p w c n (ix2 r q) + ·) (Finset.sum_congr rfl fun l _ => ?_)
      rw [sum_peers fun d => p ⟨n, h⟩ d (ix2 r l)]
    · rw [dif_neg h, add_zero]
      show (if h : n < 8 then _ else acc p w c n) (ix2 r q) = _
      rw [dif_neg h]

/-- A whole layer, entry by entry. -/
theorem acc_whole (p : Fin 8 → Dev nD → FVec Ideal S64x512 .f32) (w : Fin 8 → Dev nD → Vec Ideal S512x2048 .bf16) (c : Dev nD) (r : Fin 64) (q : Fin 2048) :
    acc p w c 8 (ix2 r q) = ∑ j : Fin 8, ∑ l : Fin 512, max (∑ d : Dev nD, p j d (ix2 r l)) 0 * w j c (ix2 l q) := by
  rw [acc_entry, Finset.sum_range]
  exact Finset.sum_congr rfl fun j _ => dif_pos j.isLt

/-! ## The plain layer -/

/-- One layer on whole arrays, as the reference's program computes it. -/
def plainLayer (X : FVec Ideal ⟨2, ![64, 8192]⟩ .bf16) (A : FVec Ideal ⟨2, ![8192, 4096]⟩ .bf16) (B : FVec Ideal ⟨2, ![4096, 8192]⟩ .bf16) :
    FVec Ideal ⟨2, ![64, 8192]⟩ .bf16 :=
  truncf .bf16 (Host.dotGeneral Cert.ReferenceIdeal.dot_S64x4096_S4096x8192_S64x8192_1_0_0_1_n_n none
    (maximumf (truncf .bf16 (Host.dotGeneral Cert.ReferenceIdeal.dot_S64x8192_S8192x4096_S64x4096_1_0_0_1_n_n none X A) Cert.ReferenceIdeal.Facts₀.bitsLt_bf16_f32)
      (broadcastInDim Cert.ReferenceIdeal.S64x4096 ![] Cert.ReferenceIdeal.Facts₀.bcast_S_S64x4096 (constant Cert.ReferenceIdeal.S_ .bf16 0x0000#16))) B)
    Cert.ReferenceIdeal.Facts₀.bitsLt_bf16_f32

/-- An entry of the plain layer. -/
theorem plainLayer_entry (X : FVec Ideal ⟨2, ![64, 8192]⟩ .bf16) (A : FVec Ideal ⟨2, ![8192, 4096]⟩ .bf16) (B : FVec Ideal ⟨2, ![4096, 8192]⟩ .bf16)
    (r : Fin 64) (q : Fin 8192) :
    plainLayer X A B (ix2 r q) = ∑ z : Fin 4096, max (∑ i : Fin 8192, X (ix2 r i) * A (ix2 i z)) 0 * B (ix2 z q) := by
  refine (StackMember.dotGeneral_plain_apply (m := 64) (k := 4096) (n := 8192) none _ B r q).trans (Finset.sum_congr rfl fun z _ => congrArg (· * B (ix2 z q)) ?_)
  show max (Host.dotGeneral (DotDims.plain 64 8192 4096) none X A (ix2 r z)) (Ideal.ofBits .bf16 0x0000#16) = _
  rw [StackMember.dotGeneral_plain_apply, show Ideal.ofBits .bf16 0x0000#16 = 0 by simp [Ideal.ofBits, Ideal.ieee]]

/-- A layer of the kernel, its products and second-weight blocks taken from whole arrays, leaves on each device its columns of the plain layer. -/
theorem layer_entry (X : FVec Ideal ⟨2, ![64, 8192]⟩ .bf16) (A : FVec Ideal ⟨2, ![8192, 4096]⟩ .bf16) (B : FVec Ideal ⟨2, ![4096, 8192]⟩ .bf16)
    (p : Fin 8 → Dev nD → FVec Ideal S64x512 .f32) (w : Fin 8 → Dev nD → Vec Ideal S512x2048 .bf16)
    (hp : ∀ j d r l, p j d (ix2 r l) = ∑ k : Fin 2048, X (ix2 r (atDev d k)) * A (ix2 (atDev d k) (atChunk j l)))
    (hw : ∀ j c l q, w j c (ix2 l q) = B (ix2 (atChunk j l) (atDev c q))) (c : Dev nD) (r : Fin 64) (q : Fin 2048) :
    acc p w c 8 (ix2 r q) = plainLayer X A B (ix2 r (atDev c q)) := by
  rw [acc_whole, plainLayer_entry, ← sum_chunk fun z => max (∑ i : Fin 8192, X (ix2 r i) * A (ix2 i z)) 0 * B (ix2 z (atDev c q))]
  refine Finset.sum_congr rfl fun j _ => Finset.sum_congr rfl fun l _ => ?_
  rw [hw, ← sum_dev fun i => X (ix2 r i) * A (ix2 i (atChunk j l)), Finset.sum_congr rfl fun d _ => hp j d r l]

/-! ## The three layers -/

/-- An entry of a device's block of an array cut along its columns. -/
theorem block_cols {M : ℕ} (v : (⟨2, ![M, 8192]⟩ : Shape).Idx → EReal) (h : Layout.Tiles ⟨2, ![M, 2048]⟩ ⟨2, ![M, 8192]⟩ 1 4) (c : Dev nD)
    (r : Fin M) (q : Fin 2048) : Layout.block ⟨2, ![M, 2048]⟩ ⟨2, ![M, 8192]⟩ 1 4 c v h (ix2 r q) = v (ix2 r (atDev c q)) := by
  refine congrArg v (funext fun a => Fin.ext ?_)
  match a with
  | 0 => rfl
  | 1 => rfl
/-- An entry of a device's block of an array cut along its rows. -/
theorem block_rows {N : ℕ} (v : (⟨2, ![8192, N]⟩ : Shape).Idx → EReal) (h : Layout.Tiles ⟨2, ![2048, N]⟩ ⟨2, ![8192, N]⟩ 0 4) (c : Dev nD)
    (k : Fin 2048) (l : Fin N) : Layout.block ⟨2, ![2048, N]⟩ ⟨2, ![8192, N]⟩ 0 4 c v h (ix2 k l) = v (ix2 (atDev c k) l) := by
  refine congrArg v (funext fun a => Fin.ext ?_)
  match a with
  | 0 => rfl
  | 1 => rfl

/-- A chunk of a device's block of a first weight. -/
theorem colBlock_entry (A : FVec Ideal ⟨2, ![8192, 4096]⟩ .bf16) (a : FVec Ideal S2048x4096 .bf16) (d : Dev nD)
    (h : a = Layout.block ⟨2, ![2048, 4096]⟩ ⟨2, ![8192, 4096]⟩ 0 4 d A) (j : Fin 8) (k : Fin 2048) (l : Fin 512) :
    colBlock (F := Ideal) j a (ix2 k l) = A (ix2 (atDev d k) (atChunk j l)) := by
  subst h
  refine (congrArg _ (?_ : colIdx j (ix2 k l) = ix2 k (atChunk j l))).trans (block_rows A _ d k (atChunk j l))
  funext a; apply Fin.ext
  match a with
  | 0 => rfl
  | 1 => rfl
/-- A chunk of a device's block of a second weight. -/
theorem rowBlock_entry (B : FVec Ideal ⟨2, ![4096, 8192]⟩ .bf16) (b : FVec Ideal S4096x2048 .bf16) (c : Dev nD)
    (h : b = Layout.block ⟨2, ![4096, 2048]⟩ ⟨2, ![4096, 8192]⟩ 1 4 c B) (j : Fin 8) (l : Fin 512) (q : Fin 2048) :
    rowBlock (F := Ideal) j b (ix2 l q) = B (ix2 (atChunk j l) (atDev c q)) := by
  subst h
  refine (congrArg _ (?_ : rowIdx j (ix2 l q) = ix2 (atChunk j l) q)).trans (block_cols B _ c (atChunk j l) q)
  funext a; apply Fin.ext
  match a with
  | 0 => rfl
  | 1 => rfl

section Launch

variable (m : (ℓ : Loc nD τ sig) → Buf (Elt Ideal) ℓ)
  (X : FVec Ideal ⟨2, ![64, 8192]⟩ .bf16) (A₀ A₁ A₂ : FVec Ideal ⟨2, ![8192, 4096]⟩ .bf16) (B₀ B₁ B₂ : FVec Ideal ⟨2, ![4096, 8192]⟩ .bf16)

/-- The launch memory holds, on each device, that device's blocks of whole arrays. -/
def Dealt : Prop := ∀ c : Dev nD,
  m ((c.tc : Thread nD τ).loc main_arg0) = Layout.block ⟨2, ![64, 2048]⟩ ⟨2, ![64, 8192]⟩ 1 4 c X
  ∧ m ((c.tc : Thread nD τ).loc main_arg1) = Layout.block ⟨2, ![2048, 4096]⟩ ⟨2, ![8192, 4096]⟩ 0 4 c A₀
  ∧ m ((c.tc : Thread nD τ).loc main_arg2) = Layout.block ⟨2, ![2048, 4096]⟩ ⟨2, ![8192, 4096]⟩ 0 4 c A₁
  ∧ m ((c.tc : Thread nD τ).loc main_arg3) = Layout.block ⟨2, ![2048, 4096]⟩ ⟨2, ![8192, 4096]⟩ 0 4 c A₂
  ∧ m ((c.tc : Thread nD τ).loc main_arg4) = Layout.block ⟨2, ![4096, 2048]⟩ ⟨2, ![4096, 8192]⟩ 1 4 c B₀
  ∧ m ((c.tc : Thread nD τ).loc main_arg5) = Layout.block ⟨2, ![4096, 2048]⟩ ⟨2, ![4096, 8192]⟩ 1 4 c B₁
  ∧ m ((c.tc : Thread nD τ).loc main_arg6) = Layout.block ⟨2, ![4096, 2048]⟩ ⟨2, ![4096, 8192]⟩ 1 4 c B₂

variable {m X A₀ A₁ A₂ B₀ B₁ B₂}

/-- The first layer's result on a device is that device's columns of one plain layer, -/
theorem out0_entry (h : Dealt m X A₀ A₁ A₂ B₀ B₁ B₂) (c : Dev nD) (r : Fin 64) (q : Fin 2048) :
    out0 m c (ix2 r q) = plainLayer X A₀ B₀ (ix2 r (atDev c q)) :=
  layer_entry X A₀ B₀ (part0 m) (woutOf m 0)
    (fun j d r l => (part_first _ _ r l).trans (Finset.sum_congr rfl fun k _ => by
      rw [(h d).1, block_cols]
      exact congrArg (X (ix2 r (atDev d k)) * ·) (colBlock_entry A₀ _ d (h d).2.1 j k l)))
    (fun j c l q => rowBlock_entry B₀ _ c (h c).2.2.2.2.1 j l q) c r q

/-- and the second's of two. -/
theorem out1_entry (h : Dealt m X A₀ A₁ A₂ B₀ B₁ B₂) (c : Dev nD) (r : Fin 64) (q : Fin 2048) :
    out1 m c (ix2 r q) = plainLayer (plainLayer X A₀ B₀) A₁ B₁ (ix2 r (atDev c q)) :=
  layer_entry (plainLayer X A₀ B₀) A₁ B₁ (part1 m) (woutOf m 1)
    (fun j d r l => (part_second _ _ r l).trans (Finset.sum_congr rfl fun k _ => by
      rw [out0_entry h]
      exact congrArg (plainLayer X A₀ B₀ (ix2 r (atDev d k)) * ·) (colBlock_entry A₁ _ d (h d).2.2.1 j k l)))
    (fun j c l q => rowBlock_entry B₁ _ c (h c).2.2.2.2.2.1 j l q) c r q

/-- The three layers' result on a device is that device's columns of the three plain layers. -/
theorem out2_entry (h : Dealt m X A₀ A₁ A₂ B₀ B₁ B₂) (c : Dev nD) (r : Fin 64) (q : Fin 2048) :
    out2 m c (ix2 r q) = plainLayer (plainLayer (plainLayer X A₀ B₀) A₁ B₁) A₂ B₂ (ix2 r (atDev c q)) :=
  layer_entry (plainLayer (plainLayer X A₀ B₀) A₁ B₁) A₂ B₂ (part2 m) (woutOf m 2)
    (fun j d r l => (part_third _ _ r l).trans (Finset.sum_congr rfl fun k _ => by
      rw [out1_entry h]
      exact congrArg (plainLayer (plainLayer X A₀ B₀) A₁ B₁ (ix2 r (atDev d k)) * ·) (colBlock_entry A₂ _ d (h d).2.2.2.1 j k l)))
    (fun j c l q => rowBlock_entry B₂ _ c (h c).2.2.2.2.2.2 j l q) c r q

/-- The whole result the reference computes. -/
def whole (X : FVec Ideal ⟨2, ![64, 8192]⟩ .bf16) (A₀ A₁ A₂ : FVec Ideal ⟨2, ![8192, 4096]⟩ .bf16) (B₀ B₁ B₂ : FVec Ideal ⟨2, ![4096, 8192]⟩ .bf16) :
    FVec Ideal ⟨2, ![64, 8192]⟩ .f32 :=
  extf .f32 (plainLayer (plainLayer (plainLayer X A₀ B₀) A₁ B₁) A₂ B₂) Cert.ReferenceIdeal.Facts₀.bitsLt_bf16_f32

/-- So the kernel's result on a device is its block of the reference's. -/
theorem out2_block (h : Dealt m X A₀ A₁ A₂ B₀ B₁ B₂) (c : Dev nD) :
    out2 m c = Layout.block ⟨2, ![64, 2048]⟩ ⟨2, ![64, 8192]⟩ 1 4 c (whole X A₀ A₁ A₂ B₀ B₁ B₂) := by
  funext i
  rw [eq_ix2 (i : S64x2048.Idx)]
  exact (out2_entry h c _ _).trans (block_cols (whole X A₀ A₁ A₂ B₀ B₁ B₂) _ c _ _).symm

end Launch

end Cert.KernelIdeal.Tp

end
-- ==== Proof.Same.lean ====
/- The kernel and its idealization are one program: the idealization rewrote nothing, so the two texts define the same run. -/
module

public import proofs.«01_k».proof.Defs
public import proofs.«01_k».proof.Proof.Gen.Kernel
public import proofs.«01_k».proof.Proof.Gen.KernelIdeal

@[expose] public section

set_option maxRecDepth 16384

noncomputable section

namespace Cert.Proof

open Idealize.ShloMosaic Idealize.SL.Sem

variable {F : FTy → Type} [FloatOps F]

/-- The first layers' bodies are the same function, -/
theorem body0_same : @Cert.Kernel.cc0__layer_body F _ _ = @Cert.KernelIdeal.cc0__layer_body F _ _ := rfl
/-- the second layers', -/
theorem body1_same : @Cert.Kernel.cc1__layer_body F _ _ = @Cert.KernelIdeal.cc1__layer_body F _ _ := rfl
/-- and the third layers'. -/
theorem body2_same : @Cert.Kernel.cc2__layer_body F _ _ = @Cert.KernelIdeal.cc2__layer_body F _ _ := rfl

set_option maxHeartbeats 8000000 in
/-- So are the tables of bodies, -/
theorem defs₀_same : (Cert.Kernel.defs₀ (F := F)) = (Cert.KernelIdeal.defs₀ (F := F)) := by
  unfold Cert.Kernel.defs₀ Cert.KernelIdeal.defs₀
  refine congrArg Defs.onTc ?_
  funext l a
  match l with
  | 0 => obtain ⟨t, s⟩ := a; rfl
  | 1 => obtain ⟨t, s⟩ := a; rfl
  | 2 => obtain ⟨t, s⟩ := a; rfl

/-- with the pipelines around them, -/
theorem defs_same : (Cert.Kernel.defs (F := F)) = (Cert.KernelIdeal.defs (F := F)) :=
  congrArg (Pipeline.defs (Cert.KernelIdeal.pcfgs (F := F))) defs₀_same

/-- and the programs that call them. -/
theorem main_same : (Cert.Kernel.main (F := F)) = (Cert.KernelIdeal.main (F := F)) := rfl

/-- A run of the one is a run of the other. -/
theorem run_same (m : (ℓ : Loc Cert.Kernel.nD Cert.Kernel.τ Cert.Kernel.sig) → Buf (Elt F) ℓ) (ρ : Dev Cert.Kernel.nD → PrngReg)
    (Q : PUnit × MemSt Cert.Kernel.nD Cert.Kernel.τ Cert.Kernel.sig (Elt F) → Prop)
    (h : θ_run (Cert.KernelIdeal.defs (F := F)) (onTc (τ := Cert.KernelIdeal.τ) (Cert.KernelIdeal.main (F := F))) ⟨m, fun _ => 0, ρ⟩ Q) :
    θ_run (Cert.Kernel.defs (F := F)) (onTc (τ := Cert.Kernel.τ) (Cert.Kernel.main (F := F))) ⟨m, fun _ => 0, ρ⟩ Q := by
  rw [defs_same, main_same]
  exact h

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Ideal.Value
public import proofs.«01_k».proof.Proof.Same

@[expose] public section

noncomputable section

namespace Cert.Proof

open Idealize.ShloMosaic Idealize.SL.Sem

/-- The kernel on the machine's words: it runs, its arguments are kept, every counter ends at zero. The run is proved of the
    idealized kernel for any float values, and the two are one program. -/
theorem frame_kernel : Cert.quiescent_Kernel := fun m ρ _ =>
  run_same m ρ _ ((θ_run Cert.KernelIdeal.defs _ _).mono (fun _ h => ⟨fun c => (h.1 c).2, h.2⟩) (Cert.KernelIdeal.Tp.run_args (F := Bits) m ρ))

/-- The idealized kernel the same. -/
theorem frame_ideal : Cert.quiescent_KernelIdeal := fun m ρ _ =>
  (θ_run Cert.KernelIdeal.defs _ _).mono (fun _ h => ⟨fun c => (h.1 c).2, h.2⟩) (Cert.KernelIdeal.Tp.run_args (F := Ideal) m ρ)

/-- The reference the same: it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals, each device's result is its columns of the reference's result. -/
theorem algebraic : Cert.algebraic_KernelIdeal_ReferenceIdeal := fun m ρ m' ρ' _ hargs =>
  ⟨_, (θ_run Cert.KernelIdeal.defs _ _).mono
      (fun _ h c => ⟨(h.1 c).1.trans (Cert.KernelIdeal.Tp.out2_block hargs c), (h.1 c).2⟩) (Cert.KernelIdeal.Tp.run_args (F := Ideal) m ρ),
    (θ_run Cert.ReferenceIdeal.defs _ _).mono (fun _ h => h 0) (Cert.ReferenceIdeal.Value.run (F := Ideal) m' ρ')⟩

/-- Every claim. The idealization rewrote nothing, so `preserves` is `True`. -/
theorem claim : Cert.Claim := ⟨Cert.Kernel.Gen.facts, Cert.KernelIdeal.Gen.facts, Cert.ReferenceIdeal.Gen.facts,
  frame_kernel, frame_ideal, frame_reference, trivial, algebraic⟩

end Cert.Proof

end
